-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S640x2x128 Cert.KernelIdeal.S640x1x128
  ∧ IdealRules.bf16_pair.Statement Cert.KernelIdeal.S16x128 Cert.KernelIdeal.S8x128
  ∧ IdealRules.bf16_pair.Statement Cert.KernelIdeal.S8x2x128 Cert.KernelIdeal.S8x1x128

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S3x6144x12288 : Shape := ⟨3, ![3, 6144, 12288]⟩
abbrev S3x6144x384 : Shape := ⟨3, ![3, 6144, 384]⟩
abbrev S_ : Shape := ⟨0, ![]⟩

class Facts : Prop where
  natLt_8_32 : 8 < 32
  bcast_S_S3x6144x384 : S_.BroadcastsInDim S3x6144x384 (![] : Fin 0 → Fin S3x6144x384.rank)
  reducesTo_S3x6144x384_S_d0_1_2 : S3x6144x384.ReducesTo [0, 1, 2] S_
  h_S_ : 0 < S_.numel

variable [Facts]

def fn {F : FTy → Type} [FloatOps F] (main_arg0 : FVec F S3x6144x12288 .fp8e4m3) (main_arg1 : IVec S3x6144x384 8) : IVec S_ 1 :=
  let main_v0 : IVec S3x6144x384 32 := (extui 32 · natLt_8_32) main_arg1
  let main_c : IVec S_ 32 := constantI S_ 32 1#32
  let main_v1 : IVec S3x6144x384 32 := broadcastInDim S3x6144x384 ![] bcast_S_S3x6144x384 main_c
  let main_v2 : IVec S3x6144x384 1 := cmpi .sge main_v0 main_v1
  let main_c_0 : IVec S_ 32 := constantI S_ 32 254#32
  let main_v3 : IVec S3x6144x384 32 := broadcastInDim S3x6144x384 ![] bcast_S_S3x6144x384 main_c_0
  let main_v4 : IVec S3x6144x384 1 := cmpi .sle main_v0 main_v3
  let main_v5 : IVec S3x6144x384 1 := andi main_v2 main_v4
  let main_c_1 : IVec S_ 1 := constantI S_ 1 1#1
  let main_v6 : IVec S_ 1 := (fun x v => Host.reduce IntOp.andi x v reducesTo_S3x6144x384_S_d0_1_2 h_S_) main_v5 main_c_1
  main_v6
-- ==== Kernel.lean ====
abbrev S3x6144x12288 : Shape := ⟨3, ![3, 6144, 12288]⟩
abbrev S3x6144x384 : Shape := ⟨3, ![3, 6144, 384]⟩
abbrev S3x12288x6144 : Shape := ⟨3, ![3, 12288, 6144]⟩
abbrev S3x12288x192 : Shape := ⟨3, ![3, 12288, 192]⟩
abbrev S1x12288 : Shape := ⟨2, ![1, 12288]⟩
abbrev S1x6144x512 : Shape := ⟨3, ![1, 6144, 512]⟩
abbrev S1x6144x128 : Shape := ⟨3, ![1, 6144, 128]⟩
abbrev S1x512x6144 : Shape := ⟨3, ![1, 512, 6144]⟩
abbrev S1x512x192 : Shape := ⟨3, ![1, 512, 192]⟩
abbrev S3072x256 : Shape := ⟨2, ![3072, 256]⟩
abbrev S128x6144 : Shape := ⟨2, ![128, 6144]⟩
abbrev S256x512 : Shape := ⟨2, ![256, 512]⟩
abbrev S512x512 : Shape := ⟨2, ![512, 512]⟩
abbrev S640x128 : Shape := ⟨2, ![640, 128]⟩
abbrev S192x512 : Shape := ⟨2, ![192, 512]⟩
abbrev S16x512 : Shape := ⟨2, ![16, 512]⟩
abbrev S1x512x128 : Shape := ⟨3, ![1, 512, 128]⟩
abbrev S512x128 : Shape := ⟨2, ![512, 128]⟩
abbrev S256x128 : Shape := ⟨2, ![256, 128]⟩
abbrev S128x512 : Shape := ⟨2, ![128, 512]⟩
abbrev S64x512 : Shape := ⟨2, ![64, 512]⟩
abbrev S256x256 : Shape := ⟨2, ![256, 256]⟩
abbrev S1x512x512 : Shape := ⟨3, ![1, 512, 512]⟩
abbrev S1x32x128 : Shape := ⟨3, ![1, 32, 128]⟩
abbrev S32x128 : Shape := ⟨2, ![32, 128]⟩
abbrev S16x128 : Shape := ⟨2, ![16, 128]⟩
abbrev S8x128 : Shape := ⟨2, ![8, 128]⟩
abbrev S1x128 : Shape := ⟨2, ![1, 128]⟩
abbrev S512x192 : Shape := ⟨2, ![512, 192]⟩
abbrev S512 : Shape := ⟨1, ![512]⟩
abbrev S1x512 : Shape := ⟨2, ![1, 512]⟩

abbrev nBuf : Space → Nat
  | .hbm => 5
  | .vmem => 18
  | .smem => 0
  | _ => 0

abbrev bufTy : (tb : Table) → Fin (tcTables nBuf tb) → BufTy
  | .hbm, ⟨0, _⟩ => ⟨S3x6144x12288, .fp8e4m3⟩
  | .hbm, ⟨1, _⟩ => ⟨S3x6144x384, .i8⟩
  | .hbm, ⟨2, _⟩ => ⟨S3x12288x6144, .fp8e4m3⟩
  | .hbm, ⟨3, _⟩ => ⟨S3x12288x192, .i8⟩
  | .hbm, ⟨4, _⟩ => ⟨S1x12288, .f32⟩
  | .local _ .vmem, ⟨0, _⟩ => ⟨S1x6144x512, .fp8e4m3⟩
  | .local _ .vmem, ⟨1, _⟩ => ⟨S1x6144x512, .fp8e4m3⟩
  | .local _ .vmem, ⟨2, _⟩ => ⟨S1x6144x128, .i8⟩
  | .local _ .vmem, ⟨3, _⟩ => ⟨S1x6144x128, .i8⟩
  | .local _ .vmem, ⟨4, _⟩ => ⟨S1x512x6144, .fp8e4m3⟩
  | .local _ .vmem, ⟨5, _⟩ => ⟨S1x512x6144, .fp8e4m3⟩
  | .local _ .vmem, ⟨6, _⟩ => ⟨S1x512x192, .i8⟩
  | .local _ .vmem, ⟨7, _⟩ => ⟨S1x512x192, .i8⟩
  | .local _ .vmem, ⟨8, _⟩ => ⟨S1x12288, .f32⟩
  | .local _ .vmem, ⟨9, _⟩ => ⟨S3072x256, .bf16⟩
  | .local _ .vmem, ⟨10, _⟩ => ⟨S128x6144, .bf16⟩
  | .local _ .vmem, ⟨11, _⟩ => ⟨S256x512, .i32⟩
  | .local _ .vmem, ⟨12, _⟩ => ⟨S512x512, .bf16⟩
  | .local _ .vmem, ⟨13, _⟩ => ⟨S640x128, .i32⟩
  | .local _ .vmem, ⟨14, _⟩ => ⟨S640x128, .i32⟩
  | .local _ .vmem, ⟨15, _⟩ => ⟨S512x512, .fp8e4m3⟩
  | .local _ .vmem, ⟨16, _⟩ => ⟨S192x512, .i32⟩
  | .local _ .vmem, ⟨17, _⟩ => ⟨S16x512, .f32⟩
  | _, _ => ⟨S3x6144x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨3, ![3, 3, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c12_i32_32 : BitVec 32 := 12#32
  let v94 : BitVec 32 := Scalar.addi c0_i32_31 c12_i32_32
  let c1_i32_33 : BitVec 32 := 1#32
  ⟨c0_i32_31, v94, c1_i32_33⟩
def k0_mult1 (k0_t1 : Fin k0_t1_loop.trips) : BitVec 32 :=
  let c0_i32_31 : BitVec 32 := 0#32
  let c1_i32_33 : BitVec 32 := 1#32
  let arg17 : BitVec 32 := Scf.iv c0_i32_31 c1_i32_33 k0_t1
  let c512_i32_35 : BitVec 32 := 512#32
  let v95 : BitVec 32 := Scalar.muli arg17 c512_i32_35
  v95
def k0_off1 (k0_t1 : Fin k0_t1_loop.trips) : Fin 3 → Nat :=
  let c0_36 : Index := 0#32
  let c0_i32_31 : BitVec 32 := 0#32
  let c1_i32_33 : BitVec 32 := 1#32
  let arg17 : BitVec 32 := Scf.iv c0_i32_31 c1_i32_33 k0_t1
  let c512_i32_35 : BitVec 32 := 512#32
  let v95 : BitVec 32 := Scalar.muli arg17 c512_i32_35
  let v96 : BitVec 32 := v95
  let v97 : Index := Scalar.indexCast v96
  let c0_37 : Index := 0#32
  ![0, v97.toNat, 0]
def k0_mult2 (k0_t1 : Fin k0_t1_loop.trips) : BitVec 32 :=
  let c0_i32_31 : BitVec 32 := 0#32
  let c1_i32_33 : BitVec 32 := 1#32
  let arg17 : BitVec 32 := Scf.iv c0_i32_31 c1_i32_33 k0_t1
  let c256_i32 : BitVec 32 := 256#32
  let v112 : BitVec 32 := Scalar.muli arg17 c256_i32
  v112
def k0_off2 (k0_t1 : Fin k0_t1_loop.trips) : Fin 2 → Nat :=
  let c0_i32_31 : BitVec 32 := 0#32
  let c1_i32_33 : BitVec 32 := 1#32
  let arg17 : BitVec 32 := Scf.iv c0_i32_31 c1_i32_33 k0_t1
  let c256_i32 : BitVec 32 := 256#32
  let v112 : BitVec 32 := Scalar.muli arg17 c256_i32
  let v113 : BitVec 32 := v112
  let v116 : Index := Scalar.indexCast v113
  let c0_38 : Index := 0#32
  ![v116.toNat, 0]
def k0_off3 (k0_t1 : Fin k0_t1_loop.trips) : Fin 2 → Nat :=
  let c0_i32_31 : BitVec 32 := 0#32
  let c1_i32_33 : BitVec 32 := 1#32
  let arg17 : BitVec 32 := Scf.iv c0_i32_31 c1_i32_33 k0_t1
  let c256_i32 : BitVec 32 := 256#32
  let v112 : BitVec 32 := Scalar.muli arg17 c256_i32
  let v113 : BitVec 32 := v112
  let v124 : Index := Scalar.indexCast v113
  let c128 : Index := 128#32
  ![v124.toNat, 128]
def k0_off4 (k0_t1 : Fin k0_t1_loop.trips) : Fin 2 → Nat :=
  let c0_40 : Index := 0#32
  let c0_i32_31 : BitVec 32 := 0#32
  let c1_i32_33 : BitVec 32 := 1#32
  let arg17 : BitVec 32 := Scf.iv c0_i32_31 c1_i32_33 k0_t1
  let c512_i32_35 : BitVec 32 := 512#32
  let v95 : BitVec 32 := Scalar.muli arg17 c512_i32_35
  let v96 : BitVec 32 := v95
  let v134 : Index := Scalar.indexCast v96
  ![0, v134.toNat]
@[reducible] def k0_t2_loop : Scf.Loop 32 :=
  let c0_i32_9 : BitVec 32 := 0#32
  let c12_i32 : BitVec 32 := 12#32
  let v43 : BitVec 32 := Scalar.addi c0_i32_9 c12_i32
  let c1_i32_10 : BitVec 32 := 1#32
  ⟨c0_i32_9, v43, c1_i32_10⟩
def k0_mult3 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  v94
def k0_mult4 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c256_i32 : BitVec 32 := 256#32
  let v96 : BitVec 32 := Scalar.muli arg17 c256_i32
  v96
def k0_off5 (k0_t2 : Fin k0_t2_loop.trips) : Fin 2 → Nat :=
  let c0_i32_9 : BitVec 32 := 0#32
  let c1_i32_10 : BitVec 32 := 1#32
  let arg17 : BitVec 32 := Scf.iv c0_i32_9 c1_i32_10 k0_t2
  let c256_i32 : BitVec 32 := 256#32
  let v96 : BitVec 32 := Scalar.muli arg17 c256_i32
  let v97 : BitVec 32 := v96
  let v98 : Index := Scalar.indexCast v97
  let c0_32 : Index := 0#32
  ![v98.toNat, 0]
def k0_off6 (k0_t2 : Fin k0_t2_loop.trips) : Fin 3 → Nat :=
  let c0_39 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v117 : Index := Scalar.indexCast v95
  let c0_40 : Index := 0#32
  ![0, v117.toNat, 0]
def k0_mult5 (i : grid0.Coords) : BitVec 32 :=
  let arg2 : BitVec 32 := BitVec.ofNat 32 (i 2).val
  let c16_i32_43 : BitVec 32 := 16#32
  let v121 : BitVec 32 := Scalar.muli arg2 c16_i32_43
  v121
def k0_off7 (i : grid0.Coords) (k0_t2 : Fin k0_t2_loop.trips) : Fin 2 → Nat :=
  let arg2 : BitVec 32 := BitVec.ofNat 32 (i 2).val
  let c16_i32_43 : BitVec 32 := 16#32
  let v121 : BitVec 32 := Scalar.muli arg2 c16_i32_43
  let v122 : BitVec 32 := v121
  let v123 : Index := Scalar.indexCast v122
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v124 : Index := Scalar.indexCast v95
  ![v123.toNat, v124.toNat]
def k0_off8 (k0_t2 : Fin k0_t2_loop.trips) (c0_i32_47 : BitVec 32) : Fin 3 → Nat :=
  let c0_48 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v131 : BitVec 32 := Scalar.addi v95 c0_i32_47
  let v132 : Index := Scalar.indexCast v131
  let c0_49 : Index := 0#32
  ![0, v132.toNat, 0]
def k0_mult6 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_134 : BitVec 32 := 16#32
  let v408 : BitVec 32 := Scalar.muli arg17 c16_i32_134
  v408
def k0_off9 (k0_t2 : Fin k0_t2_loop.trips) (c0_i32_135 : BitVec 32) : Fin 2 → Nat :=
  let c0_i32_9 : BitVec 32 := 0#32
  let c1_i32_10 : BitVec 32 := 1#32
  let arg17 : BitVec 32 := Scf.iv c0_i32_9 c1_i32_10 k0_t2
  let c16_i32_134 : BitVec 32 := 16#32
  let v408 : BitVec 32 := Scalar.muli arg17 c16_i32_134
  let v409 : BitVec 32 := v408
  let v410 : BitVec 32 := Scalar.addi v409 c0_i32_135
  let v411 : Index := Scalar.indexCast v410
  let c0_136 : Index := 0#32
  ![v411.toNat, 0]
def k0_mult7 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_293 : BitVec 32 := 16#32
  let v804 : BitVec 32 := Scalar.muli arg17 c16_i32_293
  v804
def k0_off10 (k0_t2 : Fin k0_t2_loop.trips) (c0_i32_360 : BitVec 32) : Fin 3 → Nat :=
  let c0_361 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v923 : BitVec 32 := Scalar.addi v95 c0_i32_360
  let v924 : Index := Scalar.indexCast v923
  let c128_362 : Index := 128#32
  ![0, v924.toNat, 128]
def k0_mult8 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_471 : BitVec 32 := 16#32
  let v1200 : BitVec 32 := Scalar.muli arg17 c16_i32_471
  v1200
def k0_off11 (k0_t2 : Fin k0_t2_loop.trips) (c0_i32_472 : BitVec 32) : Fin 2 → Nat :=
  let c0_i32_9 : BitVec 32 := 0#32
  let c1_i32_10 : BitVec 32 := 1#32
  let arg17 : BitVec 32 := Scf.iv c0_i32_9 c1_i32_10 k0_t2
  let c16_i32_471 : BitVec 32 := 16#32
  let v1200 : BitVec 32 := Scalar.muli arg17 c16_i32_471
  let v1201 : BitVec 32 := v1200
  let v1202 : BitVec 32 := Scalar.addi v1201 c0_i32_472
  let v1203 : Index := Scalar.indexCast v1202
  let c128_473 : Index := 128#32
  ![v1203.toNat, 128]
def k0_mult9 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_649 : BitVec 32 := 16#32
  let v1596 : BitVec 32 := Scalar.muli arg17 c16_i32_649
  v1596
def k0_off12 (k0_t2 : Fin k0_t2_loop.trips) (c0_i32_716 : BitVec 32) : Fin 3 → Nat :=
  let c0_717 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v1715 : BitVec 32 := Scalar.addi v95 c0_i32_716
  let v1716 : Index := Scalar.indexCast v1715
  let c256_718 : Index := 256#32
  ![0, v1716.toNat, 256]
def k0_mult10 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_827 : BitVec 32 := 16#32
  let v1992 : BitVec 32 := Scalar.muli arg17 c16_i32_827
  v1992
def k0_off13 (k0_t2 : Fin k0_t2_loop.trips) (c0_i32_828 : BitVec 32) : Fin 2 → Nat :=
  let c0_i32_9 : BitVec 32 := 0#32
  let c1_i32_10 : BitVec 32 := 1#32
  let arg17 : BitVec 32 := Scf.iv c0_i32_9 c1_i32_10 k0_t2
  let c16_i32_827 : BitVec 32 := 16#32
  let v1992 : BitVec 32 := Scalar.muli arg17 c16_i32_827
  let v1993 : BitVec 32 := v1992
  let v1994 : BitVec 32 := Scalar.addi v1993 c0_i32_828
  let v1995 : Index := Scalar.indexCast v1994
  let c256_829 : Index := 256#32
  ![v1995.toNat, 256]
def k0_mult11 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_1004 : BitVec 32 := 16#32
  let v2388 : BitVec 32 := Scalar.muli arg17 c16_i32_1004
  v2388
def k0_off14 (k0_t2 : Fin k0_t2_loop.trips) (c0_i32_1071 : BitVec 32) : Fin 3 → Nat :=
  let c0_1072 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v2507 : BitVec 32 := Scalar.addi v95 c0_i32_1071
  let v2508 : Index := Scalar.indexCast v2507
  let c384_1073 : Index := 384#32
  ![0, v2508.toNat, 384]
def k0_mult12 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_1182 : BitVec 32 := 16#32
  let v2784 : BitVec 32 := Scalar.muli arg17 c16_i32_1182
  v2784
def k0_off15 (k0_t2 : Fin k0_t2_loop.trips) (c0_i32_1183 : BitVec 32) : Fin 2 → Nat :=
  let c0_i32_9 : BitVec 32 := 0#32
  let c1_i32_10 : BitVec 32 := 1#32
  let arg17 : BitVec 32 := Scf.iv c0_i32_9 c1_i32_10 k0_t2
  let c16_i32_1182 : BitVec 32 := 16#32
  let v2784 : BitVec 32 := Scalar.muli arg17 c16_i32_1182
  let v2785 : BitVec 32 := v2784
  let v2786 : BitVec 32 := Scalar.addi v2785 c0_i32_1183
  let v2787 : Index := Scalar.indexCast v2786
  let c384_1184 : Index := 384#32
  ![v2787.toNat, 384]
def k0_mult13 (k0_t2 : Fin k0_t2_loop.trips) : BitVec 32 :=
  let c0_i32_9 : BitVec 32 := 0#32
  let c1_i32_10 : BitVec 32 := 1#32
  let arg17 : BitVec 32 := Scf.iv c0_i32_9 c1_i32_10 k0_t2
  let c16_i32_1359 : BitVec 32 := 16#32
  let v3180 : BitVec 32 := Scalar.muli arg17 c16_i32_1359
  v3180
def k0_off16 (k0_t2 : Fin k0_t2_loop.trips) : Fin 3 → Nat :=
  let c0_1428 : Index := 0#32
  let c0_1429 : Index := 0#32
  let c0_i32_9 : BitVec 32 := 0#32
  let c1_i32_10 : BitVec 32 := 1#32
  let arg17 : BitVec 32 := Scf.iv c0_i32_9 c1_i32_10 k0_t2
  let c512_i32_31 : BitVec 32 := 512#32
  let v94 : BitVec 32 := Scalar.muli arg17 c512_i32_31
  let v95 : BitVec 32 := v94
  let v3301 : Index := Scalar.indexCast v95
  ![0, 0, v3301.toNat]
def k0_mult14 (i : grid0.Coords) : BitVec 32 :=
  let arg1 : BitVec 32 := BitVec.ofNat 32 (i 1).val
  let c8_i32 : BitVec 32 := 8#32
  let v82 : BitVec 32 := Scalar.muli arg1 c8_i32
  let arg2 : BitVec 32 := BitVec.ofNat 32 (i 2).val
  let v83 : BitVec 32 := Scalar.addi v82 arg2
  let c512_i32 : BitVec 32 := 512#32
  let v84 : BitVec 32 := Scalar.muli v83 c512_i32
  v84
def k0_off17 (i : grid0.Coords) : Fin 2 → Nat :=
  let c0_29 : Index := 0#32
  let arg1 : BitVec 32 := BitVec.ofNat 32 (i 1).val
  let c8_i32 : BitVec 32 := 8#32
  let v82 : BitVec 32 := Scalar.muli arg1 c8_i32
  let arg2 : BitVec 32 := BitVec.ofNat 32 (i 2).val
  let v83 : BitVec 32 := Scalar.addi v82 arg2
  let c512_i32 : BitVec 32 := 512#32
  let v84 : BitVec 32 := Scalar.muli v83 c512_i32
  let v85 : BitVec 32 := v84
  let v87 : Index := Scalar.indexCast v85
  ![0, v87.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x6144x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x6144x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== KernelIdeal.lean ====
abbrev S640x2x128 : Shape := ⟨3, ![640, 2, 128]⟩
abbrev S640x1x128 : Shape := ⟨3, ![640, 1, 128]⟩
abbrev S8x2x128 : Shape := ⟨3, ![8, 2, 128]⟩
abbrev S8x1x128 : Shape := ⟨3, ![8, 1, 128]⟩
  | .local _ .vmem, ⟨13, _⟩ => ⟨S640x2x128, .bf16⟩
variable {F : FTy → Type} [FloatOps F]
-- ==== ReferenceIdeal.lean ====
abbrev S3x6144x12288 : Shape := ⟨3, ![3, 6144, 12288]⟩
abbrev S3x6144x384 : Shape := ⟨3, ![3, 6144, 384]⟩
abbrev S3x12288x6144 : Shape := ⟨3, ![3, 12288, 6144]⟩
abbrev S3x12288x192 : Shape := ⟨3, ![3, 12288, 192]⟩
abbrev S1x12288 : Shape := ⟨2, ![1, 12288]⟩
abbrev S3x6144x384x32 : Shape := ⟨4, ![3, 6144, 384, 32]⟩
abbrev S3x6144x384x1 : Shape := ⟨4, ![3, 6144, 384, 1]⟩
abbrev S12288 : Shape := ⟨1, ![12288]⟩
abbrev S1x1x12288 : Shape := ⟨3, ![1, 1, 12288]⟩
abbrev S3x12288x192x32 : Shape := ⟨4, ![3, 12288, 192, 32]⟩
abbrev S3x12288x192x252 : Shape := ⟨4, ![3, 12288, 192, 252]⟩
abbrev S3x12288x192x1 : Shape := ⟨4, ![3, 12288, 192, 1]⟩

abbrev nBuf : Space → Nat
  | .hbm => 5
  | .vmem => 5
  | .smem => 0
  | _ => 0

abbrev bufTy : (tb : Table) → Fin (tcTables nBuf tb) → BufTy
  | .hbm, ⟨0, _⟩ => ⟨S3x6144x12288, .fp8e4m3⟩
  | .hbm, ⟨1, _⟩ => ⟨S3x6144x384, .i8⟩
  | .hbm, ⟨2, _⟩ => ⟨S3x12288x6144, .fp8e4m3⟩
  | .hbm, ⟨3, _⟩ => ⟨S3x12288x192, .i8⟩
  | .hbm, ⟨4, _⟩ => ⟨S1x12288, .f32⟩
  | .local _ .vmem, ⟨0, _⟩ => ⟨S3x6144x12288, .fp8e4m3⟩
  | .local _ .vmem, ⟨1, _⟩ => ⟨S3x6144x384, .i8⟩
  | .local _ .vmem, ⟨2, _⟩ => ⟨S3x12288x6144, .fp8e4m3⟩
  | .local _ .vmem, ⟨3, _⟩ => ⟨S3x12288x192, .i8⟩
  | .local _ .vmem, ⟨4, _⟩ => ⟨S1x12288, .f32⟩
  | _, _ => ⟨S3x6144x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x6144x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6144x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x12288x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12288x192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Hand.Run.lean ====
/-
  Runs over named buffers. A program that only loads from and stores to a fixed family of whole buffers is read as a
  relation on the buffers' values: `Runs H S p Q` says that from the buffers at `S` the program `p` runs to a result and
  buffers at some `S'` with `Q`. One rule per load, store, return, sequence and counted loop.
-/
module

public import Idealize.ShloMosaic.Lib.Writes
public import Idealize.ShloMosaic.Lib.Memref
public import Idealize.ShloMosaic.Lib.Scf
public import Idealize.ShloMosaic.Lib.Tactic

@[expose] public section

noncomputable section

namespace Cert.Hand

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl]

/-- What a view reads after one unmasked write through a rectangle: the payload laid over what it read before. -/
theorem read_writes_overlay {κ : Kind} {sp : Space} {s : Shape} {e : EltTy} (v : View sig κ sp s e)
    (f : v.ty.Contents Val) (r : Rect s) (w : r.shape.Idx → Val e) :
    v.read Val (v.writes Val f [⟨r, w⟩]) = r.overlay (v.read Val f) w := by
  funext y
  by_cases h : y ∈ r.set
  · rw [← Rect.map_emb_univ] at h
    obtain ⟨x, -, rfl⟩ := Finset.mem_map.mp h
    rw [Rect.overlay_emb, View.read_writes_cons_emb]
  · rw [Rect.overlay_of_not_mem _ _ _ h, View.read_writes_cons_miss _ _ _ _ _ h, View.writes_nil]

/-- One buffer of a family `H`: how its value is read off the family's state and put back. -/
class Cell {St : Type} (H : St → sProp (MT nD τ sig Ix Val Name U Lvl)) (c : Thread nD τ) {cs : CoreSpace} {s : Shape} {e : EltTy}
    (m : Memref sig c.2.kind cs s e) where
  get : St → s.Idx → Val e
  put : St → (s.Idx → Val e) → St
  open_ : ∀ S, H S ⊢ iprop(owns c m fullShare (get S) ∗ (∀ X, owns c m fullShare X -∗ H (put S X)))
  put_get : ∀ S, put S (get S) = S

variable {St : Type} (defs : Defs nD τ sig Val Λ) (𝒱 : Variants) (c : Thread nD τ) (E : Set Name)
variable (H : St → sProp (MT nD τ sig Ix Val Name U Lvl))

/-- From the buffers at `S`, `p` runs to a result `a` and buffers at `S'` with `Q a S'`. -/
def Runs {α : Type} (S : St) (p : Prog (TpuEff nD τ sig Val Λ c.2) α) (Q : α → St → Prop) : Prop :=
  H S ⊢ wp frame (wpE defs 𝒱 c none) E p (fun a => iprop(∃ S', ⌜Q a S'⌝ ∗ H S'))

variable {defs 𝒱 c E H}

theorem Runs.mono {α : Type} {S : St} {p : Prog (TpuEff nD τ sig Val Λ c.2) α} {Q Q' : α → St → Prop}
    (h : Runs defs 𝒱 c E H S p Q) (hQ : ∀ a S', Q a S' → Q' a S') : Runs defs 𝒱 c E H S p Q' := by
  unfold Runs at *
  refine h.trans (wp_mono _ _ _ fun a => ?_)
  iintro ⟨%S', %hq, HS⟩
  iexists S'; isplitr
  · ipureintro; exact hQ a S' hq
  · iexact HS

theorem Runs.ret {α : Type} {S : St} {a : α} {Q : α → St → Prop} (h : Q a S) :
    Runs defs 𝒱 c E H S (pure a : Prog (TpuEff nD τ sig Val Λ c.2) α) Q := by
  unfold Runs
  show H S ⊢ wp frame (wpE defs 𝒱 c none) E (.ret a) _
  rw [wp_ret]
  iintro HS
  imodintro
  iexists S; isplitr
  · ipureintro; exact h
  · iexact HS

theorem Runs.bind {α β : Type} {S : St} {p : Prog (TpuEff nD τ sig Val Λ c.2) α} {k : α → Prog (TpuEff nD τ sig Val Λ c.2) β}
    {Q : β → St → Prop} (h : Runs defs 𝒱 c E H S p (fun a S' => Runs defs 𝒱 c E H S' (k a) Q)) :
    Runs defs 𝒱 c E H S (p >>= k) Q := by
  unfold Runs at *
  rw [wp_bind]
  refine h.trans (wp_mono _ _ _ fun a => ?_)
  iintro ⟨%S', %hq, HS⟩
  iapply hq
  iexact HS

theorem Runs.load_op {α : Type} {cs : CoreSpace} {s : Shape} {e : EltTy} {m : Memref sig c.2.kind cs s e} [C : Cell H c m]
    {r : LoadRect s} {hl : m.view.LoadsAt r} {k : (r.shape.Idx → Val e) → Prog (TpuEff nD τ sig Val Λ c.2) α}
    {S : St} {Q : α → St → Prop} (h : Runs defs 𝒱 c E H S (k (fun x => C.get S (r.idx x))) Q) :
    Runs defs 𝒱 c E H S (.op (.load m r hl) k) Q := by
  unfold Runs at *
  refine (C.open_ S).trans ?_
  unfold owns
  iintro ⟨⟨%f, %hf, Hm⟩, Hb⟩
  iapply (wp_load (𝒱 := 𝒱) (c := c) (bd := none) (E := E) (hl := hl) (k := k) (hS := m.view.setOn_subset_set r.set)) $$ Hm
  iintro Hm
  rw [show m.view.readAt Val r f = fun x => C.get S (r.idx x) from by funext x; rw [View.readAt_apply, hf]]
  iapply h
  ihave HS := Hb $$ %(C.get S)
  rw [C.put_get]
  iapply HS
  iexists f; isplitr
  · ipureintro; exact hf
  · iexact Hm

theorem Runs.load {α : Type} {cs : CoreSpace} {s : Shape} {e : EltTy} {m : Memref sig c.2.kind cs s e} [C : Cell H c m]
    {r : LoadRect s} {hl : m.view.LoadsAt r} {k : (r.shape.Idx → Val e) → Prog (TpuEff nD τ sig Val Λ c.2) α}
    {S : St} {Q : α → St → Prop} (h : Runs defs 𝒱 c E H S (k (fun x => C.get S (r.idx x))) Q) :
    Runs defs 𝒱 c E H S (Prog.lift (.load m r hl) >>= k) Q := Runs.load_op h

theorem Runs.store_op {α : Type} {cs : CoreSpace} {s : Shape} {e : EltTy} {m : Memref sig c.2.kind cs s e} [C : Cell H c m]
    {r : Rect s} {w : r.shape.Idx → Val e} {hx : (m.access r).Stores Finset.univ}
    {hm : Finset.univ = Finset.univ ∨ ∀ a, r.stride a = 1}
    {k : PUnit → Prog (TpuEff nD τ sig Val Λ c.2) α} {S : St} {Q : α → St → Prop}
    (h : Runs defs 𝒱 c E H (C.put S (r.overlay (C.get S) w)) (k ⟨⟩) Q) :
    Runs defs 𝒱 c E H S (.op (.store m r w Finset.univ hx hm) k) Q := by
  unfold Runs at *
  refine (C.open_ S).trans ?_
  unfold owns
  iintro ⟨⟨%f, %hf, Hm⟩, Hb⟩
  iapply (wp_store_writes₀ 𝒱 c none E (r := r) (w := w) (hx := hx) (hm := hm) (k := k) (m.setOn_access_subset r Finset.univ)) $$ Hm
  iintro Hm
  iapply h
  ihave HS := Hb $$ %(r.overlay (C.get S) w)
  iapply HS
  iexists _; isplitr; swap
  · iexact Hm
  · ipureintro; rw [read_writes_overlay, hf]

theorem Runs.store {α : Type} {cs : CoreSpace} {s : Shape} {e : EltTy} {m : Memref sig c.2.kind cs s e} [C : Cell H c m]
    {r : Rect s} {w : r.shape.Idx → Val e} {hx : (m.access r).Stores Finset.univ}
    {hm : Finset.univ = Finset.univ ∨ ∀ a, r.stride a = 1}
    {k : PUnit → Prog (TpuEff nD τ sig Val Λ c.2) α} {S : St} {Q : α → St → Prop}
    (h : Runs defs 𝒱 c E H (C.put S (r.overlay (C.get S) w)) (k ⟨⟩) Q) :
    Runs defs 𝒱 c E H S (Prog.lift (.store m r w Finset.univ hx hm) >>= k) Q := Runs.store_op h

/-- A counted loop by an invariant of the trip. -/
theorem Runs.loop {w : Nat} {σ : Type} (l : Scf.Loop w) (hok : l.OK) (init : σ)
    (body : Fin l.trips → σ → Prog (TpuEff nD τ sig Val Λ c.2) σ) (I : Nat → σ → St → Prop) {S : St} (h0 : I 0 init S)
    (hbody : ∀ (k : Fin l.trips) (a : σ) (S : St), I k a S → Runs defs 𝒱 c E H S (body k a) (I (k.val + 1))) :
    Runs defs 𝒱 c E H S (Scf.Loop.for l hok init body) (I l.trips) := by
  have h1 : H S ⊢ iprop((∃ S', ⌜I 0 init S'⌝ ∗ H S')
      ∗ (∀ a, (∃ S', ⌜I (Scf.trips l.lb l.ub l.st) a S'⌝ ∗ H S') -∗ (∃ S', ⌜I l.trips a S'⌝ ∗ H S'))) := by
    iintro HS
    isplitl [HS]
    · iexists S; isplitr
      · ipureintro; exact h0
      · iexact HS
    · iintro %a HS
      iexact HS
  unfold Runs
  refine h1.trans (Scf.wp_for _ _ _ _ _ _ hok init body (fun n a => iprop(∃ S', ⌜I n a S'⌝ ∗ H S')) ?_)
  intro k a
  iintro ⟨%S', %hi, HS⟩
  have hb := hbody k a S' hi
  unfold Runs at hb
  iapply hb
  iexact HS

end Cert.Hand

end
-- ==== Proof.Hand.KernelBufs.lean ====
/-
  The buffers `Kernel`'s kernel works on, as one state: the two inputs' and three results' staging buffers and the nine
  scratch buffers, each with its value.
-/
module

public import proofs.«01_k».proof.Proof.Gen.Kernel.Frame
public import proofs.«01_k».proof.Proof.Gen.Kernel.Skeleton
public import proofs.«01_k».proof.Proof.Hand.Run

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The buffers' values. -/
structure St (F : FTy → Type) where
  x : S1x6144x512.Idx → Elt F .fp8e4m3
  s : S1x6144x128.Idx → Elt F .i8
  codes : S1x512x6144.Idx → Elt F .fp8e4m3
  scale : S1x512x192.Idx → Elt F .i8
  dbias : S1x12288.Idx → Elt F .f32
  lhs : S3072x256.Idx → Elt F .bf16
  mt : S128x6144.Idx → Elt F .bf16
  word : S256x512.Idx → Elt F .i32
  v : S512x512.Idx → Elt F .bf16
  slab : S640x128.Idx → Elt F .i32
  inv : S640x128.Idx → Elt F .i32
  q : S512x512.Idx → Elt F .fp8e4m3
  sc : S192x512.Idx → Elt F .i32
  acc : S16x512.Idx → Elt F .f32

variable (c : Dev nD)
variable (arg3 : Memref sig .tc .vmem S1x6144x512 .fp8e4m3)
variable (arg4 : Memref sig .tc .vmem S1x6144x128 .i8)
variable (arg5 : Memref sig .tc .vmem S1x512x6144 .fp8e4m3)
variable (arg6 : Memref sig .tc .vmem S1x512x192 .i8)
variable (arg7 : Memref sig .tc .vmem S1x12288 .f32)
variable (arg8 : Memref sig .tc .vmem S3072x256 .bf16)
variable (arg9 : Memref sig .tc .vmem S128x6144 .bf16)
variable (arg10 : Memref sig .tc .vmem S256x512 .i32)
variable (arg11 : Memref sig .tc .vmem S512x512 .bf16)
variable (arg12 : Memref sig .tc .vmem S640x128 .i32)
variable (arg13 : Memref sig .tc .vmem S640x128 .i32)
variable (arg14 : Memref sig .tc .vmem S512x512 .fp8e4m3)
variable (arg15 : Memref sig .tc .vmem S192x512 .i32)
variable (arg16 : Memref sig .tc .vmem S16x512 .f32)

/-- Every buffer owned whole at its value. -/
def H (S : St F) : sProp 𝕄 :=
  iprop(owns (c : Thread nD τ) arg3 fullShare S.x
    ∗ owns (c : Thread nD τ) arg4 fullShare S.s
    ∗ owns (c : Thread nD τ) arg5 fullShare S.codes
    ∗ owns (c : Thread nD τ) arg6 fullShare S.scale
    ∗ owns (c : Thread nD τ) arg7 fullShare S.dbias
    ∗ owns (c : Thread nD τ) arg8 fullShare S.lhs
    ∗ owns (c : Thread nD τ) arg9 fullShare S.mt
    ∗ owns (c : Thread nD τ) arg10 fullShare S.word
    ∗ owns (c : Thread nD τ) arg11 fullShare S.v
    ∗ owns (c : Thread nD τ) arg12 fullShare S.slab
    ∗ owns (c : Thread nD τ) arg13 fullShare S.inv
    ∗ owns (c : Thread nD τ) arg14 fullShare S.q
    ∗ owns (c : Thread nD τ) arg15 fullShare S.sc
    ∗ owns (c : Thread nD τ) arg16 fullShare S.acc)

instance cell_x : Cell (H (F := F) c arg3 arg4 arg5 arg6 arg7 arg8 arg9 arg10 arg11 arg12 arg13 arg14 arg15 arg16) (c : Thread nD τ) arg3 where
  get S := S.x
  put S X := { S with x := X }
  put_get _ := rfl
  open_ S := by
    unfold H
    iintro ⟨h3, h4, h5, h6, h7, h8, h9, h10, h11, h12, h13, h14, h15, h16⟩
    isplitl [h3]
    · iexact h3
    iintro %X h3
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_s : Cell (H (F := F) c arg3 arg4 arg5 arg6 arg7 arg8 arg9 arg10 arg11 arg12 arg13 arg14 arg15 arg16) (c : Thread nD τ) arg4 where
  get S := S.s
  put S X := { S with s := X }
  put_get _ := rfl
  open_ S := by
    unfold H
    iintro ⟨h3, h4, h5, h6, h7, h8, h9, h10, h11, h12, h13, h14, h15, h16⟩
    isplitl [h4]
    · iexact h4
    iintro %X h4
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_codes : Cell (H (F := F) c arg3 arg4 arg5 arg6 arg7 arg8 arg9 arg10 arg11 arg12 arg13 arg14 arg15 arg16) (c : Thread nD τ) arg5 where
  get S := S.codes
  put S X := { S with codes := X }
  put_get _ := rfl
  open_ S := by
    unfold H
    iintro ⟨h3, h4, h5, h6, h7, h8, h9, h10, h11, h12, h13, h14, h15, h16⟩
    isplitl [h5]
    · iexact h5
    iintro %X h5
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_scale : Cell (H (F := F) c arg3 arg4 arg5 arg6 arg7 arg8 arg9 arg10 arg11 arg12 arg13 arg14 arg15 arg16) (c : Thread nD τ) arg6 where
  get S := S.scale
  put S X := { S with scale := X }
  put_get _ := rfl
  open_ S := by
    unfold H
    iintro ⟨h3, h4, h5, h6, h7, h8, h9, h10, h11, h12, h13, h14, h15, h16⟩
    isplitl [h6]
    · iexact h6
    iintro %X h6
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_dbias : Cell (H (F := F) c arg3 arg4 arg5 arg6 arg7 arg8 arg9 arg10 arg11 arg12 arg13 arg14 arg15 arg16) (c : Thread nD τ) arg7 where
  get S := S.dbias
  put S X := { S with dbias := X }
  put_get _ := rfl
  open_ S := by
    unfold H
    iintro ⟨h3, h4, h5, h6, h7, h8, h9, h10, h11, h12, h13, h14, h15, h16⟩
    isplitl [h7]
    · iexact h7
    iintro %X h7
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_lhs : Cell (H (F := F) c arg3 arg4 arg5 arg6 arg7 arg8 arg9 arg10 arg11 arg12 arg13 arg14 arg15 arg16) (c : Thread nD τ) arg8 where
  get S := S.lhs
  put S X := { S with lhs := X }
  put_get _ := rfl
  open_ S := by
    unfold H
    iintro ⟨h3, h4, h5, h6, h7, h8, h9, h10, h11, h12, h13, h14, h15, h16⟩
    isplitl [h8]
    · iexact h8
    iintro %X h8
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_mt : Cell (H (F := F) c arg3 arg4 arg5 arg6 arg7 arg8 arg9 arg10 arg11 arg12 arg13 arg14 arg15 arg16) (c : Thread nD τ) arg9 where
  get S := S.mt
  put S X := { S with mt := X }
  put_get _ := rfl
  open_ S := by
    unfold H
    iintro ⟨h3, h4, h5, h6, h7, h8, h9, h10, h11, h12, h13, h14, h15, h16⟩
    isplitl [h9]
    · iexact h9
    iintro %X h9
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_word : Cell (H (F := F) c arg3 arg4 arg5 arg6 arg7 arg8 arg9 arg10 arg11 arg12 arg13 arg14 arg15 arg16) (c : Thread nD τ) arg10 where
  get S := S.word
  put S X := { S with word := X }
  put_get _ := rfl
  open_ S := by
    unfold H
    iintro ⟨h3, h4, h5, h6, h7, h8, h9, h10, h11, h12, h13, h14, h15, h16⟩
    isplitl [h10]
    · iexact h10
    iintro %X h10
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_v : Cell (H (F := F) c arg3 arg4 arg5 arg6 arg7 arg8 arg9 arg10 arg11 arg12 arg13 arg14 arg15 arg16) (c : Thread nD τ) arg11 where
  get S := S.v
  put S X := { S with v := X }
  put_get _ := rfl
  open_ S := by
    unfold H
    iintro ⟨h3, h4, h5, h6, h7, h8, h9, h10, h11, h12, h13, h14, h15, h16⟩
    isplitl [h11]
    · iexact h11
    iintro %X h11
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_slab : Cell (H (F := F) c arg3 arg4 arg5 arg6 arg7 arg8 arg9 arg10 arg11 arg12 arg13 arg14 arg15 arg16) (c : Thread nD τ) arg12 where
  get S := S.slab
  put S X := { S with slab := X }
  put_get _ := rfl
  open_ S := by
    unfold H
    iintro ⟨h3, h4, h5, h6, h7, h8, h9, h10, h11, h12, h13, h14, h15, h16⟩
    isplitl [h12]
    · iexact h12
    iintro %X h12
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_inv : Cell (H (F := F) c arg3 arg4 arg5 arg6 arg7 arg8 arg9 arg10 arg11 arg12 arg13 arg14 arg15 arg16) (c : Thread nD τ) arg13 where
  get S := S.inv
  put S X := { S with inv := X }
  put_get _ := rfl
  open_ S := by
    unfold H
    iintro ⟨h3, h4, h5, h6, h7, h8, h9, h10, h11, h12, h13, h14, h15, h16⟩
    isplitl [h13]
    · iexact h13
    iintro %X h13
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_q : Cell (H (F := F) c arg3 arg4 arg5 arg6 arg7 arg8 arg9 arg10 arg11 arg12 arg13 arg14 arg15 arg16) (c : Thread nD τ) arg14 where
  get S := S.q
  put S X := { S with q := X }
  put_get _ := rfl
  open_ S := by
    unfold H
    iintro ⟨h3, h4, h5, h6, h7, h8, h9, h10, h11, h12, h13, h14, h15, h16⟩
    isplitl [h14]
    · iexact h14
    iintro %X h14
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_sc : Cell (H (F := F) c arg3 arg4 arg5 arg6 arg7 arg8 arg9 arg10 arg11 arg12 arg13 arg14 arg15 arg16) (c : Thread nD τ) arg15 where
  get S := S.sc
  put S X := { S with sc := X }
  put_get _ := rfl
  open_ S := by
    unfold H
    iintro ⟨h3, h4, h5, h6, h7, h8, h9, h10, h11, h12, h13, h14, h15, h16⟩
    isplitl [h15]
    · iexact h15
    iintro %X h15
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_acc : Cell (H (F := F) c arg3 arg4 arg5 arg6 arg7 arg8 arg9 arg10 arg11 arg12 arg13 arg14 arg15 arg16) (c : Thread nD τ) arg16 where
  get S := S.acc
  put S X := { S with acc := X }
  put_get _ := rfl
  open_ S := by
    unfold H
    iintro ⟨h3, h4, h5, h6, h7, h8, h9, h10, h11, h12, h13, h14, h15, h16⟩
    isplitl [h16]
    · iexact h16
    iintro %X h16
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

end Cert.Kernel.Hand

end
-- ==== Proof.Hand.KernelTrip.lean ====
/-
  The main loop's trip of `Kernel`'s kernel, in its own structure: for each of the four chunks of 128 lanes and each of the
  two halves of the trip's 512 tokens, eight blocks of 32 tokens are decoded, their largest magnitudes give eight rows of
  scales, and the eight blocks are quantised. The printed trip is this program.
-/
module

public import proofs.«01_k».proof.Proof.Gen.Kernel.Skeleton

@[expose] public section

noncomputable section

namespace Cert.Kernel.Hand

open Cert.Kernel Cert.Kernel.Gen
open Idealize.ShloMosaic Idealize.SL.Sem

variable {F : FTy → Type} [BitOps F]

/-- Where the block of codes of chunk `c`, block `8 g + j` of trip `t` starts. -/
def xOff (t : Fin k0_t2_loop.trips) (c : Fin 4) (r : Fin 16) : Fin 3 → Nat :=
  match c with
  | ⟨0, _⟩ => k0_off8 t (BitVec.ofNat 32 (32 * r.val))
  | ⟨1, _⟩ => k0_off10 t (BitVec.ofNat 32 (32 * r.val))
  | ⟨2, _⟩ => k0_off12 t (BitVec.ofNat 32 (32 * r.val))
  | ⟨3, _⟩ => k0_off14 t (BitVec.ofNat 32 (32 * r.val))

theorem xOff_eq (t : Fin k0_t2_loop.trips) (c : Fin 4) (r : Fin 16) : xOff t c r = ![0, 512 * t.val + 32 * r.val, 128 * c.val] :=
  match c with
  | ⟨0, _⟩ => k0_off8_eq t r
  | ⟨1, _⟩ => k0_off10_eq t r
  | ⟨2, _⟩ => k0_off12_eq t r
  | ⟨3, _⟩ => k0_off14_eq t r

theorem xOff_inb (t : Fin k0_t2_loop.trips) (c : Fin 4) (r : Fin 16) (a : Fin 3) :
    xOff t c r a + S1x32x128.size a ≤ S1x6144x512.size a :=
  match c with
  | ⟨0, _⟩ => k0_off8_inb t r a
  | ⟨1, _⟩ => k0_off10_inb t r a
  | ⟨2, _⟩ => k0_off12_inb t r a
  | ⟨3, _⟩ => k0_off14_inb t r a

/-- Where the eight rows of scales of chunk `c`, half `g` of trip `t` start. -/
def scOff (t : Fin k0_t2_loop.trips) (c : Fin 4) (g : Fin 2) : Fin 2 → Nat :=
  match c with
  | ⟨0, _⟩ => k0_off9 t (BitVec.ofNat 32 (8 * g.val))
  | ⟨1, _⟩ => k0_off11 t (BitVec.ofNat 32 (8 * g.val))
  | ⟨2, _⟩ => k0_off13 t (BitVec.ofNat 32 (8 * g.val))
  | ⟨3, _⟩ => k0_off15 t (BitVec.ofNat 32 (8 * g.val))

theorem scOff_eq (t : Fin k0_t2_loop.trips) (c : Fin 4) (g : Fin 2) : scOff t c g = ![16 * t.val + 8 * g.val, 128 * c.val] :=
  match c with
  | ⟨0, _⟩ => k0_off9_eq t g
  | ⟨1, _⟩ => k0_off11_eq t g
  | ⟨2, _⟩ => k0_off13_eq t g
  | ⟨3, _⟩ => k0_off15_eq t g

theorem scOff_inb (t : Fin k0_t2_loop.trips) (c : Fin 4) (g : Fin 2) (a : Fin 2) :
    scOff t c g a + S8x128.size a ≤ S192x512.size a :=
  match c with
  | ⟨0, _⟩ => k0_off9_inb t g a
  | ⟨1, _⟩ => k0_off11_inb t g a
  | ⟨2, _⟩ => k0_off13_inb t g a
  | ⟨3, _⟩ => k0_off15_inb t g a

/-- The block `8 g + j` of the sixteen of a trip. -/
def blk (g : Fin 2) (j : Fin 8) : Fin 16 := ⟨g.val * 8 + j.val, by omega⟩

theorem word_inb (c : Fin 4) (g : Fin 2) (j : Fin 8) (a : Fin 2) :
    (![(g.val * 8 + j.val) * 16, c.val * 128] : Fin 2 → Nat) a + S16x128.size a ≤ S256x512.size a := by
  revert c g j a; decide +kernel

theorem tile_inb (c : Fin 4) (g : Fin 2) (j : Fin 8) (a : Fin 2) :
    (![(g.val * 8 + j.val) * 32, c.val * 128] : Fin 2 → Nat) a + S32x128.size a ≤ S512x512.size a := by
  revert c g j a; decide +kernel

theorem tile_packed (p : Nat) (hp : p ∣ 32) (c : Fin 4) (g : Fin 2) (j : Fin 8) :
    (Rect.unit (s := S512x512) ![(g.val * 8 + j.val) * 32, c.val * 128] S32x128.size (tile_inb c g j)).PackedRows p :=
  by
  have h2 : 2 ≤ S512x512.rank := by decide
  refine .inr ⟨h2, rfl, .inl ⟨?_, ?_⟩⟩
  · show p ∣ (g.val * 8 + j.val) * 32
    exact Dvd.dvd.mul_left hp _
  · exact hp

theorem slab_inb (c : Fin 4) (g : Fin 2) (j : Fin 8) :
    ∀ a : Fin 2, S8x128.size a = 0 ∨ (![(c.val * 2 + g.val) * 80 + j.val, 0] : Fin 2 → Nat) a + (![9, 1] : Fin 2 → Nat) a * (S8x128.size a - 1) < S640x128.size a := by
  revert c g j; decide +kernel

theorem slabld_inb (c : Fin 4) (g : Fin 2) (n : Nat) (hn : n ≤ 63) (a : Fin 2) :
    (![(c.val * 2 + g.val) * 80 + n, 0] : Fin 2 → Nat) a + S8x128.size a ≤ S640x128.size a := by
  have hc := c.isLt; have hg := g.isLt
  fin_cases a <;> first | (simp +decide; done) | (show (c.val * 2 + g.val) * 80 + n + 8 ≤ 640; omega)

theorem inv_inb (c : Fin 4) (g : Fin 2) (a : Fin 2) :
    (![(c.val * 2 + g.val) * 80, 0] : Fin 2 → Nat) a + S8x128.size a ≤ S640x128.size a := by
  revert c g a; decide +kernel

theorem inv1_inb (c : Fin 4) (g : Fin 2) (j : Fin 8) (a : Fin 2) :
    (![(c.val * 2 + g.val) * 80 + j.val, 0] : Fin 2 → Nat) a + S1x128.size a ≤ S640x128.size a := by
  revert c g j a; decide +kernel

/-- Eight programs in a row, before `k`. -/
def seq8 (f : Fin 8 → Prog (TpuEff nD τ sig (Elt F) Λ₀ .tc) Unit → Prog (TpuEff nD τ sig (Elt F) Λ₀ .tc) Unit) (k : Prog (TpuEff nD τ sig (Elt F) Λ₀ .tc) Unit) : Prog (TpuEff nD τ sig (Elt F) Λ₀ .tc) Unit :=
  f ⟨0, by decide⟩ <| f ⟨1, by decide⟩ <| f ⟨2, by decide⟩ <| f ⟨3, by decide⟩ <| f ⟨4, by decide⟩ <| f ⟨5, by decide⟩ <|
    f ⟨6, by decide⟩ <| f ⟨7, by decide⟩ k

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x128 .i32) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

/-- Decode block `8 g + j` of chunk `c`: keep the decoded block and, per lane, the magnitudes of its two halves. -/
def decode (t : Fin k0_t2_loop.trips) (c : Fin 4) (g : Fin 2) (j : Fin 8) (k : Prog (TpuEff nD τ sig (Elt F) Λ₀ .tc) Unit) : Prog (TpuEff nD τ sig (Elt F) Λ₀ .tc) Unit :=
  .op (.load arg3 (Rect.unit (s := S1x6144x512) (xOff t c (blk g j)) S1x32x128.size (xOff_inb t c (blk g j))).toLoadRect (View.loadsAt_vmem h_S1x32x128)) fun (x : Vec F S1x32x128 .fp8e4m3) =>
  .op (.load arg10 (Rect.unit (s := S256x512) ![(g.val * 8 + j.val) * 16, c.val * 128] S16x128.size (word_inb c g j)).toLoadRect (View.loadsAt_vmem h_S16x128)) fun (w : Vec F S16x128 .i32) =>
  .op (.load arg11 (Rect.unit (s := S512x512) ![(g.val * 8 + j.val) * 32, c.val * 128] S32x128.size (tile_inb c g j)).toLoadRect (View.loadsAt_vmem h_S32x128)) fun (_ : Vec F S32x128 .bf16) =>
  .op (.store arg11 (Rect.unit (s := S512x512) ![(g.val * 8 + j.val) * 32, c.val * 128] S32x128.size (tile_inb c g j)) (k0_pay11 x w) Finset.univ (View.stores_vmem h_S32x128 (harg11.storeExact_slice rfl _ (tile_packed (EltTy.packing .bf16) (by decide) c g j)) (fun _ => rfl)) (.inl rfl)) fun _ =>
  .op (.load arg12 (⟨![(c.val * 2 + g.val) * 80 + j.val, 0], S8x128.size, ![9, 1], slab_inb c g j⟩ : LoadRect S640x128) (View.loadsAt_vmem h_S8x128)) fun (_ : Vec F S8x128 .i32) =>
  .op (.store arg12 ⟨(⟨![(c.val * 2 + g.val) * 80 + j.val, 0], S8x128.size, ![9, 1], slab_inb c g j⟩ : LoadRect S640x128), spos_9_1⟩ (k0_pay12 x w) Finset.univ (View.stores_vmem_bits_univ h_S8x128 rfl) (.inl rfl)) fun _ =>
  k

/-- The eight scales of half `g`, per lane of chunk `c`, from the eight largest magnitudes. -/
def scales (t : Fin k0_t2_loop.trips) (c : Fin 4) (g : Fin 2) (k : Prog (TpuEff nD τ sig (Elt F) Λ₀ .tc) Unit) : Prog (TpuEff nD τ sig (Elt F) Λ₀ .tc) Unit :=
  .op (.load arg12 (Rect.unit (s := S640x128) ![(c.val * 2 + g.val) * 80 + 0, 0] S8x128.size (slabld_inb c g 0 (by decide))).toLoadRect (View.loadsAt_vmem h_S8x128)) fun (a0 : Vec F S8x128 .i32) =>
  .op (.load arg12 (Rect.unit (s := S640x128) ![(c.val * 2 + g.val) * 80 + 9, 0] S8x128.size (slabld_inb c g 9 (by decide))).toLoadRect (View.loadsAt_vmem h_S8x128)) fun (a1 : Vec F S8x128 .i32) =>
  .op (.load arg12 (Rect.unit (s := S640x128) ![(c.val * 2 + g.val) * 80 + 18, 0] S8x128.size (slabld_inb c g 18 (by decide))).toLoadRect (View.loadsAt_vmem h_S8x128)) fun (a2 : Vec F S8x128 .i32) =>
  .op (.load arg12 (Rect.unit (s := S640x128) ![(c.val * 2 + g.val) * 80 + 27, 0] S8x128.size (slabld_inb c g 27 (by decide))).toLoadRect (View.loadsAt_vmem h_S8x128)) fun (a3 : Vec F S8x128 .i32) =>
  .op (.load arg12 (Rect.unit (s := S640x128) ![(c.val * 2 + g.val) * 80 + 36, 0] S8x128.size (slabld_inb c g 36 (by decide))).toLoadRect (View.loadsAt_vmem h_S8x128)) fun (a4 : Vec F S8x128 .i32) =>
  .op (.load arg12 (Rect.unit (s := S640x128) ![(c.val * 2 + g.val) * 80 + 45, 0] S8x128.size (slabld_inb c g 45 (by decide))).toLoadRect (View.loadsAt_vmem h_S8x128)) fun (a5 : Vec F S8x128 .i32) =>
  .op (.load arg12 (Rect.unit (s := S640x128) ![(c.val * 2 + g.val) * 80 + 54, 0] S8x128.size (slabld_inb c g 54 (by decide))).toLoadRect (View.loadsAt_vmem h_S8x128)) fun (a6 : Vec F S8x128 .i32) =>
  .op (.load arg12 (Rect.unit (s := S640x128) ![(c.val * 2 + g.val) * 80 + 63, 0] S8x128.size (slabld_inb c g 63 (by decide))).toLoadRect (View.loadsAt_vmem h_S8x128)) fun (a7 : Vec F S8x128 .i32) =>
  let y : FVec F S8x128 .f32 := k0_pay34 a0 a1 a2 a3 a4 a5 a6 a7
  let ef : IVec S8x128 32 := k0_pay37 y k0_pay35 k0_pay36
  let ef1 : IVec S8x128 32 := k0_pay38 y k0_pay35 k0_pay36
  .op (.load arg13 (Rect.unit (s := S640x128) ![(c.val * 2 + g.val) * 80, 0] S8x128.size (inv_inb c g)).toLoadRect (View.loadsAt_vmem h_S8x128)) fun (_ : Vec F S8x128 .i32) =>
  .op (.store arg13 (Rect.unit (s := S640x128) ![(c.val * 2 + g.val) * 80, 0] S8x128.size (inv_inb c g)) (k0_pay40 y ef ef1) Finset.univ (View.stores_vmem_bits_univ h_S8x128 rfl) (.inl rfl)) fun _ =>
  .op (.load arg15 (Rect.unit (s := S192x512) (scOff t c g) S8x128.size (scOff_inb t c g)).toLoadRect (View.loadsAt_vmem h_S8x128)) fun (_ : Vec F S8x128 .i32) =>
  .op (.store arg15 (Rect.unit (s := S192x512) (scOff t c g) S8x128.size (scOff_inb t c g)) (k0_pay41 (k0_pay39 y ef ef1)) Finset.univ (View.stores_vmem_bits_univ h_S8x128 rfl) (.inl rfl)) fun _ =>
  k

/-- Quantise block `8 g + j` of chunk `c` by its scale. -/
def quantise (c : Fin 4) (g : Fin 2) (j : Fin 8) (k : Prog (TpuEff nD τ sig (Elt F) Λ₀ .tc) Unit) : Prog (TpuEff nD τ sig (Elt F) Λ₀ .tc) Unit :=
  .op (.load arg13 (Rect.unit (s := S640x128) ![(c.val * 2 + g.val) * 80 + j.val, 0] S1x128.size (inv1_inb c g j)).toLoadRect (View.loadsAt_vmem h_S1x128)) fun (m : Vec F S1x128 .i32) =>
  .op (.load arg11 (Rect.unit (s := S512x512) ![(g.val * 8 + j.val) * 32, c.val * 128] S32x128.size (tile_inb c g j)).toLoadRect (View.loadsAt_vmem h_S32x128)) fun (v : Vec F S32x128 .bf16) =>
  .op (.load arg14 (Rect.unit (s := S512x512) ![(g.val * 8 + j.val) * 32, c.val * 128] S32x128.size (tile_inb c g j)).toLoadRect (View.loadsAt_vmem h_S32x128)) fun (_ : Vec F S32x128 .fp8e4m3) =>
  .op (.store arg14 (Rect.unit (s := S512x512) ![(g.val * 8 + j.val) * 32, c.val * 128] S32x128.size (tile_inb c g j)) (k0_pay42 m v) Finset.univ (View.stores_vmem h_S32x128 (harg14.storeExact_slice rfl _ (tile_packed (EltTy.packing .fp8e4m3) (by decide) c g j)) (fun _ => rfl)) (.inl rfl)) fun _ =>
  k

/-- Chunk `c`, half `g`. -/
def group (t : Fin k0_t2_loop.trips) (c : Fin 4) (g : Fin 2) (k : Prog (TpuEff nD τ sig (Elt F) Λ₀ .tc) Unit) : Prog (TpuEff nD τ sig (Elt F) Λ₀ .tc) Unit :=
  seq8 (decode arg3 arg10 arg11 harg11 arg12 t c g) <|
  scales arg12 arg13 arg15 t c g <|
  seq8 (quantise arg11 arg13 arg14 harg14 c g) k

/-- The scales of the trip's tokens as words, and the sums over the tokens. -/
def prologue (v38 : FVec F S256x512 .bf16) (t : Fin k0_t2_loop.trips) (k : Prog (TpuEff nD τ sig (Elt F) Λ₀ .tc) Unit) : Prog (TpuEff nD τ sig (Elt F) Λ₀ .tc) Unit :=
  .op (.load arg8 (Rect.unit (s := S3072x256) (k0_off5 t) S256x256.size (k0_off5_inb t)).toLoadRect (View.loadsAt_vmem h_S256x256)) fun (a : Vec F S256x256 .bf16) =>
  .op (.load arg10 (Rect.unit (s := S256x512) ![0, 0] S256x512.size inb_S256x512_S256x512_0_0).toLoadRect (View.loadsAt_vmem h_S256x512)) fun (_ : Vec F S256x512 .i32) =>
  .op (.store arg10 (Rect.unit (s := S256x512) ![0, 0] S256x512.size inb_S256x512_S256x512_0_0) (k0_pay8 v38 a) Finset.univ (View.stores_vmem_bits_univ h_S256x512 rfl) (.inl rfl)) fun _ =>
  .op (.load arg3 (Rect.unit (s := S1x6144x512) (k0_off6 t) S1x512x512.size (k0_off6_inb t)).toLoadRect (View.loadsAt_vmem h_S1x512x512)) fun (x : Vec F S1x512x512 .fp8e4m3) =>
  .op (.load arg16 (Rect.unit (s := S16x512) ![0, 0] S16x512.size inb_S16x512_S16x512_0_0).toLoadRect (View.loadsAt_vmem h_S16x512)) fun (s : Vec F S16x512 .f32) =>
  .op (.load arg9 (Rect.unit (s := S128x6144) (k0_off7 i t) S16x512.size (k0_off7_inb i t)).toLoadRect (View.loadsAt_vmem h_S16x512)) fun (m : Vec F S16x512 .bf16) =>
  .op (.load arg16 (Rect.unit (s := S16x512) ![0, 0] S16x512.size inb_S16x512_S16x512_0_0).toLoadRect (View.loadsAt_vmem h_S16x512)) fun (_ : Vec F S16x512 .f32) =>
  .op (.store arg16 (Rect.unit (s := S16x512) ![0, 0] S16x512.size inb_S16x512_S16x512_0_0) (k0_pay9 x s m) Finset.univ (View.stores_vmem_bits_univ h_S16x512 rfl) (.inl rfl)) fun _ =>
  k

/-- The trip's quantised block of codes into the result, transposed. -/
def epilogue (t : Fin k0_t2_loop.trips) (k : Prog (TpuEff nD τ sig (Elt F) Λ₀ .tc) Unit) : Prog (TpuEff nD τ sig (Elt F) Λ₀ .tc) Unit :=
  .op (.load arg14 (Rect.unit (s := S512x512) ![0, 0] S512x512.size inb_S512x512_S512x512_0_0).toLoadRect (View.loadsAt_vmem h_S512x512)) fun (q : Vec F S512x512 .fp8e4m3) =>
  .op (.load arg5 (Rect.unit (s := S1x512x6144) (k0_off16 t) S1x512x512.size (k0_off16_inb t)).toLoadRect (View.loadsAt_vmem h_S1x512x512)) fun (_ : Vec F S1x512x512 .fp8e4m3) =>
  .op (.store arg5 (Rect.unit (s := S1x512x6144) (k0_off16 t) S1x512x512.size (k0_off16_inb t)) (k0_pay398 (k0_pay394 q)) Finset.univ (View.stores_vmem h_S1x512x512 (harg5.storeExact_slice rfl _ (k0_off16_packedfp8e4m3 t)) (fun _ => rfl)) (.inl rfl)) fun _ =>
  k

/-- One trip. -/
def trip (v38 : FVec F S256x512 .bf16) : Fin k0_t2_loop.trips → Unit → Prog (TpuEff nD τ sig (Elt F) Λ₀ .tc) Unit :=
  fun t _ =>
    prologue i arg3 arg8 arg9 arg10 arg16 v38 t <|
    group arg3 arg10 arg11 harg11 arg12 arg13 arg14 harg14 arg15 t ⟨0, by decide⟩ ⟨0, by decide⟩ <|
    group arg3 arg10 arg11 harg11 arg12 arg13 arg14 harg14 arg15 t ⟨0, by decide⟩ ⟨1, by decide⟩ <|
    group arg3 arg10 arg11 harg11 arg12 arg13 arg14 harg14 arg15 t ⟨1, by decide⟩ ⟨0, by decide⟩ <|
    group arg3 arg10 arg11 harg11 arg12 arg13 arg14 harg14 arg15 t ⟨1, by decide⟩ ⟨1, by decide⟩ <|
    group arg3 arg10 arg11 harg11 arg12 arg13 arg14 harg14 arg15 t ⟨2, by decide⟩ ⟨0, by decide⟩ <|
    group arg3 arg10 arg11 harg11 arg12 arg13 arg14 harg14 arg15 t ⟨2, by decide⟩ ⟨1, by decide⟩ <|
    group arg3 arg10 arg11 harg11 arg12 arg13 arg14 harg14 arg15 t ⟨3, by decide⟩ ⟨0, by decide⟩ <|
    group arg3 arg10 arg11 harg11 arg12 arg13 arg14 harg14 arg15 t ⟨3, by decide⟩ ⟨1, by decide⟩ <|
    epilogue arg5 harg5 arg14 t <|
    .ret ()

end Cert.Kernel.Hand

end
-- ==== Proof.Hand.KernelTripEq.lean ====
/-
  The printed trip of the main loop is the structured one.
-/
module

public import proofs.«01_k».proof.Proof.Hand.KernelTrip

@[expose] public section

noncomputable section

namespace Cert.Kernel.Hand

open Cert.Kernel Cert.Kernel.Gen
open Idealize.ShloMosaic Idealize.SL.Sem

variable {F : FTy → Type} [BitOps F]

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x128 .i32) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

set_option maxRecDepth 100000 in
set_option maxHeartbeats 0 in
theorem t2_body_eq (arg2 : BitVec 32) (v38 : FVec F S256x512 .bf16) (v39 : FVec F S16x512 .f32) :
    k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v38 v39
      = trip i arg3 arg5 harg5 arg8 arg9 arg10 arg11 harg11 arg12 arg13 arg14 harg14 arg15 arg16 v38 := by
  funext t u
  rfl

end Cert.Kernel.Hand

end
-- ==== Proof.Hand.KernelSafe.lean ====
/-
  `Kernel`'s kernel at one grid point, from buffers at any values: it runs, and its two inputs' buffers keep theirs.
-/
module

public import proofs.«01_k».proof.Proof.Hand.KernelBufs
public import proofs.«01_k».proof.Proof.Hand.KernelTripEq

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x128 .i32) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

/-- From the buffers at `S` the program runs to `Q`. -/
abbrev Go {α : Type} (S : St F) (p : Prog (TpuEff nD τ sig (Elt F) Λ₀ .tc) α) (Q : α → St F → Prop) : Prop :=
  Runs (defs₀ (F := F)) Variants.none (c : Thread nD τ) Set.univ (H (F := F) c arg3 arg4 arg5 arg6 arg7 arg8 arg9 arg10 arg11 arg12 arg13 arg14 arg15 arg16) S p Q

/-- The inputs' buffers hold `x` and `s`. -/
def Keeps (x : S1x6144x512.Idx → Elt F .fp8e4m3) (s : S1x6144x128.Idx → Elt F .i8) (S : St F) : Prop := S.x = x ∧ S.s = s

variable {x : S1x6144x512.Idx → Elt F .fp8e4m3} {s : S1x6144x128.Idx → Elt F .i8}

theorem seq8_rule {f : Fin 8 → Prog (TpuEff nD τ sig (Elt F) Λ₀ .tc) Unit → Prog (TpuEff nD τ sig (Elt F) Λ₀ .tc) Unit}
    {k : Prog (TpuEff nD τ sig (Elt F) Λ₀ .tc) Unit} {Q : Unit → St F → Prop} (I : Nat → St F → Prop)
    (hf : ∀ (j : Fin 8) k', (∀ S, I (j.val + 1) S → Go arg3 arg4 arg5 arg6 arg7 arg8 arg9 arg10 arg11 arg12 arg13 arg14 arg15 arg16 c S k' Q) → ∀ S, I j.val S → Go arg3 arg4 arg5 arg6 arg7 arg8 arg9 arg10 arg11 arg12 arg13 arg14 arg15 arg16 c S (f j k') Q)
    (hk : ∀ S, I 8 S → Go arg3 arg4 arg5 arg6 arg7 arg8 arg9 arg10 arg11 arg12 arg13 arg14 arg15 arg16 c S k Q) : ∀ S, I 0 S → Go arg3 arg4 arg5 arg6 arg7 arg8 arg9 arg10 arg11 arg12 arg13 arg14 arg15 arg16 c S (seq8 f k) Q :=
  hf 0 _ <| hf 1 _ <| hf 2 _ <| hf 3 _ <| hf 4 _ <| hf 5 _ <| hf 6 _ <| hf 7 _ hk

section Safe

variable {k : Prog (TpuEff nD τ sig (Elt F) Λ₀ .tc) Unit} {Q : Unit → St F → Prop}
variable (hk : ∀ S, Keeps x s S → Go arg3 arg4 arg5 arg6 arg7 arg8 arg9 arg10 arg11 arg12 arg13 arg14 arg15 arg16 c S k Q)

include hk

theorem safe_decode (t : Fin k0_t2_loop.trips) (l : Fin 4) (g : Fin 2) (j : Fin 8) (S : St F) (hS : Keeps x s S) :
    Go arg3 arg4 arg5 arg6 arg7 arg8 arg9 arg10 arg11 arg12 arg13 arg14 arg15 arg16 c S (decode arg3 arg10 arg11 harg11 arg12 t l g j k) Q := by
  unfold decode Go
  refine Runs.load_op ?_
  refine Runs.load_op ?_
  refine Runs.load_op ?_
  refine Runs.store_op ?_
  refine Runs.load_op ?_
  refine Runs.store_op ?_
  exact hk _ ⟨hS.1, hS.2⟩

theorem safe_scales (t : Fin k0_t2_loop.trips) (l : Fin 4) (g : Fin 2) (S : St F) (hS : Keeps x s S) :
    Go arg3 arg4 arg5 arg6 arg7 arg8 arg9 arg10 arg11 arg12 arg13 arg14 arg15 arg16 c S (scales arg12 arg13 arg15 t l g k) Q := by
  unfold scales Go
  refine Runs.load_op ?_
  refine Runs.load_op ?_
  refine Runs.load_op ?_
  refine Runs.load_op ?_
  refine Runs.load_op ?_
  refine Runs.load_op ?_
  refine Runs.load_op ?_
  refine Runs.load_op ?_
  refine Runs.load_op ?_
  refine Runs.store_op ?_
  refine Runs.load_op ?_
  refine Runs.store_op ?_
  exact hk _ ⟨hS.1, hS.2⟩

theorem safe_quantise (l : Fin 4) (g : Fin 2) (j : Fin 8) (S : St F) (hS : Keeps x s S) :
    Go arg3 arg4 arg5 arg6 arg7 arg8 arg9 arg10 arg11 arg12 arg13 arg14 arg15 arg16 c S (quantise arg11 arg13 arg14 harg14 l g j k) Q := by
  unfold quantise Go
  refine Runs.load_op ?_
  refine Runs.load_op ?_
  refine Runs.load_op ?_
  refine Runs.store_op ?_
  exact hk _ ⟨hS.1, hS.2⟩

theorem safe_group (t : Fin k0_t2_loop.trips) (l : Fin 4) (g : Fin 2) (S : St F) (hS : Keeps x s S) :
    Go arg3 arg4 arg5 arg6 arg7 arg8 arg9 arg10 arg11 arg12 arg13 arg14 arg15 arg16 c S (group arg3 arg10 arg11 harg11 arg12 arg13 arg14 harg14 arg15 t l g k) Q :=
  seq8_rule arg3 arg4 arg5 arg6 arg7 arg8 arg9 arg10 arg11 arg12 arg13 arg14 arg15 arg16 c (fun _ => Keeps x s) (fun j k' h => safe_decode arg3 arg4 arg5 arg6 arg7 arg8 arg9 arg10 arg11 harg11 arg12 arg13 arg14 arg15 arg16 c h t l g j)
    (safe_scales arg3 arg4 arg5 arg6 arg7 arg8 arg9 arg10 arg11 arg12 arg13 arg14 arg15 arg16 c (seq8_rule arg3 arg4 arg5 arg6 arg7 arg8 arg9 arg10 arg11 arg12 arg13 arg14 arg15 arg16 c (fun _ => Keeps x s)
      (fun j k' h => safe_quantise arg3 arg4 arg5 arg6 arg7 arg8 arg9 arg10 arg11 arg12 arg13 arg14 harg14 arg15 arg16 c h l g j) hk) t l g) S hS

theorem safe_prologue (v38 : FVec F S256x512 .bf16) (t : Fin k0_t2_loop.trips) (S : St F) (hS : Keeps x s S) :
    Go arg3 arg4 arg5 arg6 arg7 arg8 arg9 arg10 arg11 arg12 arg13 arg14 arg15 arg16 c S (prologue i arg3 arg8 arg9 arg10 arg16 v38 t k) Q := by
  unfold prologue Go
  refine Runs.load_op ?_
  refine Runs.load_op ?_
  refine Runs.store_op ?_
  refine Runs.load_op ?_
  refine Runs.load_op ?_
  refine Runs.load_op ?_
  refine Runs.load_op ?_
  refine Runs.store_op ?_
  exact hk _ ⟨hS.1, hS.2⟩

theorem safe_epilogue (t : Fin k0_t2_loop.trips) (S : St F) (hS : Keeps x s S) :
    Go arg3 arg4 arg5 arg6 arg7 arg8 arg9 arg10 arg11 arg12 arg13 arg14 arg15 arg16 c S (epilogue arg5 harg5 arg14 t k) Q := by
  unfold epilogue Go
  refine Runs.load_op ?_
  refine Runs.load_op ?_
  refine Runs.store_op ?_
  exact hk _ ⟨hS.1, hS.2⟩

end Safe

theorem safe_trip (v38 : FVec F S256x512 .bf16) (t : Fin k0_t2_loop.trips) (S : St F) (hS : Keeps x s S) :
    Go arg3 arg4 arg5 arg6 arg7 arg8 arg9 arg10 arg11 arg12 arg13 arg14 arg15 arg16 c S (trip i arg3 arg5 harg5 arg8 arg9 arg10 arg11 harg11 arg12 arg13 arg14 harg14 arg15 arg16 v38 t ())
      (fun _ S' => Keeps x s S') := by
  unfold trip
  refine safe_prologue i arg3 arg4 arg5 arg6 arg7 arg8 arg9 arg10 arg11 arg12 arg13 arg14 arg15 arg16 c (fun S hS => ?_) v38 t _ hS
  iterate 8 refine safe_group arg3 arg4 arg5 arg6 arg7 arg8 arg9 arg10 arg11 harg11 arg12 arg13 arg14 harg14 arg15 arg16 c (fun S hS => ?_) _ _ _ _ hS
  exact safe_epilogue arg3 arg4 arg5 harg5 arg6 arg7 arg8 arg9 arg10 arg11 arg12 arg13 arg14 arg15 arg16 c (fun S hS => Runs.ret hS) t _ hS

theorem safe_part_first (S : St F) (hS : Keeps x s S) :
    Go arg3 arg4 arg5 arg6 arg7 arg8 arg9 arg10 arg11 arg12 arg13 arg14 arg15 arg16 c S (k0_part86 (F := F) i arg3 harg3 arg4 harg4 arg5 harg5 arg6 harg6 arg7 harg7 arg8 harg8 arg9 harg9 arg10 harg10 arg11 harg11 arg12 harg12 arg13 harg13 arg14 harg14 arg15 harg15 arg16 harg16) (fun _ S' => Keeps x s S') := by
  rw [k0_part86_eq_skeleton]
  unfold k0_part86_skel
  dsimp only
  split
  · refine Runs.bind ?_
    refine Runs.mono (Runs.loop _ _ _ _ (fun _ _ S' => Keeps x s S') hS ?_) ?_
    · intro k a S hS
      unfold k0_t1_body
      rw [k0_part1_eq_skeleton]
      unfold k0_part1_skel
      refine Runs.bind ?_
      refine Runs.mono (Q := fun _ S' => Keeps x s S') ?_ ?_
      · refine Runs.load ?_
        refine Runs.load ?_
        refine Runs.store ?_
        refine Runs.load ?_
        refine Runs.store ?_
        refine Runs.load ?_
        refine Runs.store ?_
        exact Runs.ret ⟨hS.1, hS.2⟩
      · intro a S' hS'
        exact Runs.ret hS'
    · intro a S' hS'
      exact Runs.ret hS'
  · exact Runs.ret hS

theorem safe_part_second (arg2 : BitVec 32) (v38 : FVec F S256x512 .bf16) (v39 : FVec F S16x512 .f32) (S : St F) (hS : Keeps x s S) :
    Go arg3 arg4 arg5 arg6 arg7 arg8 arg9 arg10 arg11 arg12 arg13 arg14 arg15 arg16 c S (k0_part87 (F := F) i arg3 harg3 arg4 harg4 arg5 harg5 arg6 harg6 arg7 harg7 arg8 harg8 arg9 harg9 arg10 harg10 arg11 harg11 arg12 harg12 arg13 harg13 arg14 harg14 arg15 harg15 arg16 harg16 arg2 v38 v39) (fun _ S' => Keeps x s S') := by
  rw [k0_part87_eq_skeleton]
  unfold k0_part87_skel
  rw [t2_body_eq]
  refine Runs.load ?_
  refine Runs.store ?_
  refine Runs.bind ?_
  refine Runs.mono (Runs.loop _ _ _ _ (fun _ _ S' => Keeps x s S') ⟨hS.1, hS.2⟩ ?_) ?_
  · intro k a S hS
    exact safe_trip i arg3 arg4 arg5 harg5 arg6 arg7 arg8 arg9 arg10 arg11 harg11 arg12 arg13 arg14 harg14 arg15 arg16 c v38 k S hS
  · intro a S' hS'
    refine Runs.load ?_
    refine Runs.load ?_
    refine Runs.store ?_
    refine Runs.load ?_
    exact Runs.ret ⟨hS'.1, hS'.2⟩

theorem safe_body (S : St F) (hS : Keeps x s S) :
    Go arg3 arg4 arg5 arg6 arg7 arg8 arg9 arg10 arg11 arg12 arg13 arg14 arg15 arg16 c S (cc0_requant (F := F) i arg3 harg3 arg4 harg4 arg5 harg5 arg6 harg6 arg7 harg7 arg8 harg8 arg9 harg9 arg10 harg10 arg11 harg11 arg12 harg12 arg13 harg13 arg14 harg14 arg15 harg15 arg16 harg16) (fun _ S' => Keeps x s S') := by
  rw [cc0_requant_eq_skeleton]
  unfold cc0_requant_skel
  refine Runs.bind ?_
  refine (safe_part_first i arg3 harg3 arg4 harg4 arg5 harg5 arg6 harg6 arg7 harg7 arg8 harg8 arg9 harg9 arg10 harg10 arg11 harg11 arg12 harg12 arg13 harg13 arg14 harg14 arg15 harg15 arg16 harg16 c S hS).mono ?_
  intro a S' hS'
  obtain ⟨arg0, arg1, arg2, v38, v39⟩ := a
  refine Runs.bind ?_
  refine (safe_part_second i arg3 harg3 arg4 harg4 arg5 harg5 arg6 harg6 arg7 harg7 arg8 harg8 arg9 harg9 arg10 harg10 arg11 harg11 arg12 harg12 arg13 harg13 arg14 harg14 arg15 harg15 arg16 harg16 c arg2 v38 v39 S' hS').mono ?_
  intro a S' hS'
  obtain ⟨v76, v77, cst_26⟩ := a
  refine Runs.load ?_
  refine Runs.load ?_
  refine Runs.store ?_
  exact Runs.ret ⟨hS'.1, hS'.2⟩

end Cert.Kernel.Hand

end
-- ==== Proof.Hand.KernelBody.lean ====
/-
  The launch of `Kernel`: the kernel at every grid point in terms of its buffers' values, and from it the run of @main.
-/
module

public import proofs.«01_k».proof.Proof.Hand.KernelSafe
public import Idealize.ShloMosaic.Lib.Pipeline.Frame
public import Idealize.ShloMosaic.Lib.StableHlo.RunHlo

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The scratch between two grid points: whole, the prepared scales in the relation `J`, and the generator's register. -/
def Between (J : (S3072x256.Idx → Elt F .bf16) → (S128x6144.Idx → Elt F .bf16) → Prop) (c : Dev nD) : sProp 𝕄 :=
  iprop(∃ X8 X9, ⌜J X8 X9⌝ ∗ owns (c : Thread nD τ) (Memref.whole cc0_scratch0) fullShare X8
    ∗ owns (c : Thread nD τ) (Memref.whole cc0_scratch1) fullShare X9
    ∗ (∃ X, owns (c : Thread nD τ) (Memref.whole cc0_scratch2) fullShare X)
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X)
    ∗ (∃ X, owns (c : Thread nD τ) (Memref.whole cc0_scratch8) fullShare X)
    ∗ ∃ r, prngReg c r)

/-- From what the region is entered with, any `J` that always holds. -/
theorem between_of (J : (S3072x256.Idx → Elt F .bf16) → (S128x6144.Idx → Elt F .bf16) → Prop) (hJ : ∀ a b, J a b) (c : Dev nD) :
    (Pipeline.ΦA spec0 c : sProp 𝕄) ⊢ Between J c := by
  unfold Pipeline.ΦA Between
  rw [scopedRest0_eq]
  iintro ⟨⟨⟨%f0, h0⟩, ⟨%f1, h1⟩, ⟨%f2, h2⟩, ⟨%f3, h3⟩, ⟨%f4, h4⟩, ⟨%f5, h5⟩, ⟨%f6, h6⟩, ⟨%f7, h7⟩, ⟨%f8, h8⟩⟩, Hg⟩
  simp only [owns_whole]
  iexists f0; iexists f1
  isplitr
  · ipureintro; exact hJ _ _
  isplitl [h0]; · iexact h0
  isplitl [h1]; · iexact h1
  isplitl [h2]; · iexists f2; iexact h2
  isplitl [h3]; · iexists f3; iexact h3
  isplitl [h4]; · iexists f4; iexact h4
  isplitl [h5]; · iexists f5; iexact h5
  isplitl [h6]; · iexists f6; iexact h6
  isplitl [h7]; · iexists f7; iexact h7
  isplitl [h8]; · iexists f8; iexact h8
  iexact Hg

theorem of_between (J : (S3072x256.Idx → Elt F .bf16) → (S128x6144.Idx → Elt F .bf16) → Prop) (c : Dev nD) :
    Between J c ⊢ (Pipeline.ΦA spec0 c : sProp 𝕄) := by
  unfold Pipeline.ΦA Between
  rw [scopedRest0_eq]
  simp only [owns_whole]
  iintro ⟨%X8, %X9, %hJ, h0, h1, ⟨%f2, h2⟩, ⟨%f3, h3⟩, ⟨%f4, h4⟩, ⟨%f5, h5⟩, ⟨%f6, h6⟩, ⟨%f7, h7⟩, ⟨%f8, h8⟩, Hg⟩
  isplitr [Hg]
  · isplitl [h0]; · iexists X8; iexact h0
    isplitl [h1]; · iexists X9; iexact h1
    isplitl [h2]; · iexists f2; iexact h2
    isplitl [h3]; · iexists f3; iexact h3
    isplitl [h4]; · iexists f4; iexact h4
    isplitl [h5]; · iexists f5; iexact h5
    isplitl [h6]; · iexists f6; iexact h6
    isplitl [h7]; · iexists f7; iexact h7
    iexists f8; iexact h8
  · iexact Hg

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The kernel's run at point `t` of the grid, on the buffers it is handed there. -/
abbrev At (c : Dev nD) (t : Fin cfg0.N) (S : St F) (Q : PUnit → St F → Prop) : Prop :=
  Go (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c S (bodyAt0 t) Q

/-- Relational proof data of the region. -/
abbrev rdat (J : Fin (cfg0.N + 1) → (S3072x256.Idx → Elt F .bf16) → (S128x6144.Idx → Elt F .bf16) → Prop)
    (R : (w : Fin cfg0.W) → Fin cfg0.N → (Y X : (cfg0.win w).block.Idx → Elt F (cfg0.win w).elt) → Prop) (c : Dev nD) :
    RDat τ (Elt F) Unit ℕ (UR sig nD τ) ℕ cfg0 c where
  A w := V m c (Pipeline.arrRef spec0 w)
  after := R
  Φ t := Between (J t) c
  q _ := fullShare
  owed _ := 0

/-- The body obligation from the kernel's runs. -/
theorem obligation (J : Fin (cfg0.N + 1) → (S3072x256.Idx → Elt F .bf16) → (S128x6144.Idx → Elt F .bf16) → Prop)
    (R : (w : Fin cfg0.W) → Fin cfg0.N → (Y X : (cfg0.win w).block.Idx → Elt F (cfg0.win w).elt) → Prop) (c : Dev nD)
    (h : ∀ (t : Fin cfg0.N) (S : St F), (rdat m J R c).Finds 0 t S.x → (rdat m J R c).Finds 1 t S.s → (rdat m J R c).Finds 2 t S.codes →
      (rdat m J R c).Finds 3 t S.scale → (rdat m J R c).Finds 4 t S.dbias → J t.castSucc S.lhs S.mt →
      At c t S fun _ S' => J t.succ S'.lhs S'.mt ∧ R 0 t S.x S'.x ∧ R 1 t S.s S'.s ∧ R 2 t S.codes S'.codes
        ∧ R 3 t S.scale S'.scale ∧ R 4 t S.dbias S'.dbias) :
    (rdat m J R c).BodyObligation (defs₀ (F := F)) Variants.none () Set.univ := fun t Y hY => by
  rw [bigSep_W0, bigSep_W0, defs₀_row]
  show iprop(Between (J t.castSucc) c ∗ Pipeline.owesWithin c 0 ((rdat m J R c).bound () t.castSucc) ∗ _) ⊢ wp _ _ _ _ (fun _ => iprop(Between (J t.succ) c
    ∗ Pipeline.owesWithin c 0 ((rdat m J R c).bound () t.succ) ∗ _))
  unfold Between Pipeline.owesWithin
  iintro ⟨⟨%X8, %X9, %hJ, h8, h9, ⟨%X10, h10⟩, ⟨%X11, h11⟩, ⟨%X12, h12⟩, ⟨%X13, h13⟩, ⟨%X14, h14⟩, ⟨%X15, h15⟩, ⟨%X16, h16⟩, Hg⟩, ⟨%W, %hW, HO⟩, h3, h4, h5, h6, h7⟩
  have hb := h t ⟨Y 0, Y 1, Y 2, Y 3, Y 4, X8, X9, X10, X11, X12, X13, X14, X15, X16⟩ (hY 0) (hY 1) (hY 2) (hY 3) (hY 4) hJ
  unfold At Go Runs H at hb
  iapply (Idealize.SL.Sem.wp_wand_r _ _)
  isplitr [Hg HO]
  · iapply hb
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16
  iintro %a ⟨%S', %hQ, h3, h4, h5, h6, h7, h8, h9, h10, h11, h12, h13, h14, h15, h16⟩
  obtain ⟨hJ', hR0, hR1, hR2, hR3, hR4⟩ := hQ
  isplitr [HO h3 h4 h5 h6 h7]
  · iexists S'.lhs; iexists S'.mt
    isplitr
    · ipureintro; exact hJ'
    isplitl [h8]; · iexact h8
    isplitl [h9]; · iexact h9
    isplitl [h10]; · iexists S'.word; iexact h10
    isplitl [h11]; · iexists S'.v; iexact h11
    isplitl [h12]; · iexists S'.slab; iexact h12
    isplitl [h13]; · iexists S'.inv; iexact h13
    isplitl [h14]; · iexists S'.q; iexact h14
    isplitl [h15]; · iexists S'.sc; iexact h15
    isplitl [h16]; · iexists S'.acc; iexact h16
    iexact Hg
  isplitl [HO]
  · iexists W; isplitr
    · ipureintro; exact fun _ _ => Or.inl trivial
    · iexact HO
  isplitl [h3]; · iexists S'.x; isplitr; (· ipureintro; exact hR0); iexact h3
  isplitl [h4]; · iexists S'.s; isplitr; (· ipureintro; exact hR1); iexact h4
  isplitl [h5]; · iexists S'.codes; isplitr; (· ipureintro; exact hR2); iexact h5
  isplitl [h6]; · iexists S'.scale; isplitr; (· ipureintro; exact hR3); iexact h6
  iexists S'.dbias; isplitr; (· ipureintro; exact hR4); iexact h7

/-- The launched region's data for runs that say nothing of the results. -/
abbrev plain (c : Dev nD) : RDat τ (Elt F) Unit ℕ (UR sig nD τ) ℕ cfg0 c :=
  rdat m (fun _ _ _ => True) (fun w _ Y X => if w.val < 2 then X = Y else True) c

theorem plain_obligation (c : Dev nD) : (plain m c).BodyObligation (defs₀ (F := F)) Variants.none () Set.univ :=
  obligation m _ _ c fun t S _ _ _ _ _ _ =>
    (safe_body (x := S.x) (s := S.s) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) c S ⟨rfl, rfl⟩).mono fun _ S' hS' =>
      ⟨trivial, by simpa using hS'.1, by simpa using hS'.2, trivial, trivial, trivial⟩

open Classical in
set_option backward.isDefEq.respectTransparency.types false in
/-- @main runs, and leaves its arguments as they were. -/
theorem run_frame (ρ : Dev nD → PrngReg) : θ_run (Val := Elt F) (sig := sig) (defs (F := F)) (onTc (τ := τ) (main (F := F))) ⟨m, fun _ => 0, ρ⟩
    (fun r => RDat.FramePost (cfgs 0) (plain m) (V m) r ∧ r.2.sem = fun _ => 0) :=
  RDat.θ_run_frame_track cfgs (0 : Fin 1) launch0 (defs₀ (F := F)) Variants.none (plain m) m ρ main
    (hbody := fun c => plain_obligation m c) (hshare := fun c w => by unfold RDat.share; split <;> rfl) (howed := fun _ _ => rfl) (V := V m)
    (hmain := hmain m Variants.none) (hA := fun _ _ => rfl) (hin := fun c => between_of _ (fun _ _ => trivial) c)
    (hout := fun c => of_between _ c) (Q' := _) (hQ' := fun r h => h)

open Classical in
/-- The same, of the two arguments and the counters alone. -/
theorem run_quiescent (ρ : Dev nD → PrngReg) : θ_run (Val := Elt F) (sig := sig) (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run_frame m ρ) (fun r h => ⟨fun c => ⟨h.1.arr_in c (0 : Fin 5) rfl, h.1.arr_in c (1 : Fin 5) rfl⟩, h.2⟩)

end Cert.Kernel.Hand

end
-- ==== Proof.Hand.IdealBufs.lean ====
/-
  The buffers `KernelIdeal`'s kernel works on, as one state: the two inputs' and three results' staging buffers and the nine
  scratch buffers, each with its value.
-/
module

public import proofs.«01_k».proof.Proof.Gen.KernelIdeal.Frame
public import proofs.«01_k».proof.Proof.Gen.KernelIdeal.Skeleton
public import proofs.«01_k».proof.Proof.Hand.Run

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers' values. -/
structure St (F : FTy → Type) where
  x : S1x6144x512.Idx → Elt F .fp8e4m3
  s : S1x6144x128.Idx → Elt F .i8
  codes : S1x512x6144.Idx → Elt F .fp8e4m3
  scale : S1x512x192.Idx → Elt F .i8
  dbias : S1x12288.Idx → Elt F .f32
  lhs : S3072x256.Idx → Elt F .bf16
  mt : S128x6144.Idx → Elt F .bf16
  word : S256x512.Idx → Elt F .i32
  v : S512x512.Idx → Elt F .bf16
  slab : S640x2x128.Idx → Elt F .bf16
  inv : S640x128.Idx → Elt F .i32
  q : S512x512.Idx → Elt F .fp8e4m3
  sc : S192x512.Idx → Elt F .i32
  acc : S16x512.Idx → Elt F .f32

variable (c : Dev nD)
variable (arg3 : Memref sig .tc .vmem S1x6144x512 .fp8e4m3)
variable (arg4 : Memref sig .tc .vmem S1x6144x128 .i8)
variable (arg5 : Memref sig .tc .vmem S1x512x6144 .fp8e4m3)
variable (arg6 : Memref sig .tc .vmem S1x512x192 .i8)
variable (arg7 : Memref sig .tc .vmem S1x12288 .f32)
variable (arg8 : Memref sig .tc .vmem S3072x256 .bf16)
variable (arg9 : Memref sig .tc .vmem S128x6144 .bf16)
variable (arg10 : Memref sig .tc .vmem S256x512 .i32)
variable (arg11 : Memref sig .tc .vmem S512x512 .bf16)
variable (arg12 : Memref sig .tc .vmem S640x2x128 .bf16)
variable (arg13 : Memref sig .tc .vmem S640x128 .i32)
variable (arg14 : Memref sig .tc .vmem S512x512 .fp8e4m3)
variable (arg15 : Memref sig .tc .vmem S192x512 .i32)
variable (arg16 : Memref sig .tc .vmem S16x512 .f32)

/-- Every buffer owned whole at its value. -/
def H (S : St F) : sProp 𝕄 :=
  iprop(owns (c : Thread nD τ) arg3 fullShare S.x
    ∗ owns (c : Thread nD τ) arg4 fullShare S.s
    ∗ owns (c : Thread nD τ) arg5 fullShare S.codes
    ∗ owns (c : Thread nD τ) arg6 fullShare S.scale
    ∗ owns (c : Thread nD τ) arg7 fullShare S.dbias
    ∗ owns (c : Thread nD τ) arg8 fullShare S.lhs
    ∗ owns (c : Thread nD τ) arg9 fullShare S.mt
    ∗ owns (c : Thread nD τ) arg10 fullShare S.word
    ∗ owns (c : Thread nD τ) arg11 fullShare S.v
    ∗ owns (c : Thread nD τ) arg12 fullShare S.slab
    ∗ owns (c : Thread nD τ) arg13 fullShare S.inv
    ∗ owns (c : Thread nD τ) arg14 fullShare S.q
    ∗ owns (c : Thread nD τ) arg15 fullShare S.sc
    ∗ owns (c : Thread nD τ) arg16 fullShare S.acc)

instance cell_x : Cell (H (F := F) c arg3 arg4 arg5 arg6 arg7 arg8 arg9 arg10 arg11 arg12 arg13 arg14 arg15 arg16) (c : Thread nD τ) arg3 where
  get S := S.x
  put S X := { S with x := X }
  put_get _ := rfl
  open_ S := by
    unfold H
    iintro ⟨h3, h4, h5, h6, h7, h8, h9, h10, h11, h12, h13, h14, h15, h16⟩
    isplitl [h3]
    · iexact h3
    iintro %X h3
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_s : Cell (H (F := F) c arg3 arg4 arg5 arg6 arg7 arg8 arg9 arg10 arg11 arg12 arg13 arg14 arg15 arg16) (c : Thread nD τ) arg4 where
  get S := S.s
  put S X := { S with s := X }
  put_get _ := rfl
  open_ S := by
    unfold H
    iintro ⟨h3, h4, h5, h6, h7, h8, h9, h10, h11, h12, h13, h14, h15, h16⟩
    isplitl [h4]
    · iexact h4
    iintro %X h4
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_codes : Cell (H (F := F) c arg3 arg4 arg5 arg6 arg7 arg8 arg9 arg10 arg11 arg12 arg13 arg14 arg15 arg16) (c : Thread nD τ) arg5 where
  get S := S.codes
  put S X := { S with codes := X }
  put_get _ := rfl
  open_ S := by
    unfold H
    iintro ⟨h3, h4, h5, h6, h7, h8, h9, h10, h11, h12, h13, h14, h15, h16⟩
    isplitl [h5]
    · iexact h5
    iintro %X h5
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_scale : Cell (H (F := F) c arg3 arg4 arg5 arg6 arg7 arg8 arg9 arg10 arg11 arg12 arg13 arg14 arg15 arg16) (c : Thread nD τ) arg6 where
  get S := S.scale
  put S X := { S with scale := X }
  put_get _ := rfl
  open_ S := by
    unfold H
    iintro ⟨h3, h4, h5, h6, h7, h8, h9, h10, h11, h12, h13, h14, h15, h16⟩
    isplitl [h6]
    · iexact h6
    iintro %X h6
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_dbias : Cell (H (F := F) c arg3 arg4 arg5 arg6 arg7 arg8 arg9 arg10 arg11 arg12 arg13 arg14 arg15 arg16) (c : Thread nD τ) arg7 where
  get S := S.dbias
  put S X := { S with dbias := X }
  put_get _ := rfl
  open_ S := by
    unfold H
    iintro ⟨h3, h4, h5, h6, h7, h8, h9, h10, h11, h12, h13, h14, h15, h16⟩
    isplitl [h7]
    · iexact h7
    iintro %X h7
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_lhs : Cell (H (F := F) c arg3 arg4 arg5 arg6 arg7 arg8 arg9 arg10 arg11 arg12 arg13 arg14 arg15 arg16) (c : Thread nD τ) arg8 where
  get S := S.lhs
  put S X := { S with lhs := X }
  put_get _ := rfl
  open_ S := by
    unfold H
    iintro ⟨h3, h4, h5, h6, h7, h8, h9, h10, h11, h12, h13, h14, h15, h16⟩
    isplitl [h8]
    · iexact h8
    iintro %X h8
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_mt : Cell (H (F := F) c arg3 arg4 arg5 arg6 arg7 arg8 arg9 arg10 arg11 arg12 arg13 arg14 arg15 arg16) (c : Thread nD τ) arg9 where
  get S := S.mt
  put S X := { S with mt := X }
  put_get _ := rfl
  open_ S := by
    unfold H
    iintro ⟨h3, h4, h5, h6, h7, h8, h9, h10, h11, h12, h13, h14, h15, h16⟩
    isplitl [h9]
    · iexact h9
    iintro %X h9
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_word : Cell (H (F := F) c arg3 arg4 arg5 arg6 arg7 arg8 arg9 arg10 arg11 arg12 arg13 arg14 arg15 arg16) (c : Thread nD τ) arg10 where
  get S := S.word
  put S X := { S with word := X }
  put_get _ := rfl
  open_ S := by
    unfold H
    iintro ⟨h3, h4, h5, h6, h7, h8, h9, h10, h11, h12, h13, h14, h15, h16⟩
    isplitl [h10]
    · iexact h10
    iintro %X h10
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_v : Cell (H (F := F) c arg3 arg4 arg5 arg6 arg7 arg8 arg9 arg10 arg11 arg12 arg13 arg14 arg15 arg16) (c : Thread nD τ) arg11 where
  get S := S.v
  put S X := { S with v := X }
  put_get _ := rfl
  open_ S := by
    unfold H
    iintro ⟨h3, h4, h5, h6, h7, h8, h9, h10, h11, h12, h13, h14, h15, h16⟩
    isplitl [h11]
    · iexact h11
    iintro %X h11
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_slab : Cell (H (F := F) c arg3 arg4 arg5 arg6 arg7 arg8 arg9 arg10 arg11 arg12 arg13 arg14 arg15 arg16) (c : Thread nD τ) arg12 where
  get S := S.slab
  put S X := { S with slab := X }
  put_get _ := rfl
  open_ S := by
    unfold H
    iintro ⟨h3, h4, h5, h6, h7, h8, h9, h10, h11, h12, h13, h14, h15, h16⟩
    isplitl [h12]
    · iexact h12
    iintro %X h12
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_inv : Cell (H (F := F) c arg3 arg4 arg5 arg6 arg7 arg8 arg9 arg10 arg11 arg12 arg13 arg14 arg15 arg16) (c : Thread nD τ) arg13 where
  get S := S.inv
  put S X := { S with inv := X }
  put_get _ := rfl
  open_ S := by
    unfold H
    iintro ⟨h3, h4, h5, h6, h7, h8, h9, h10, h11, h12, h13, h14, h15, h16⟩
    isplitl [h13]
    · iexact h13
    iintro %X h13
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_q : Cell (H (F := F) c arg3 arg4 arg5 arg6 arg7 arg8 arg9 arg10 arg11 arg12 arg13 arg14 arg15 arg16) (c : Thread nD τ) arg14 where
  get S := S.q
  put S X := { S with q := X }
  put_get _ := rfl
  open_ S := by
    unfold H
    iintro ⟨h3, h4, h5, h6, h7, h8, h9, h10, h11, h12, h13, h14, h15, h16⟩
    isplitl [h14]
    · iexact h14
    iintro %X h14
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_sc : Cell (H (F := F) c arg3 arg4 arg5 arg6 arg7 arg8 arg9 arg10 arg11 arg12 arg13 arg14 arg15 arg16) (c : Thread nD τ) arg15 where
  get S := S.sc
  put S X := { S with sc := X }
  put_get _ := rfl
  open_ S := by
    unfold H
    iintro ⟨h3, h4, h5, h6, h7, h8, h9, h10, h11, h12, h13, h14, h15, h16⟩
    isplitl [h15]
    · iexact h15
    iintro %X h15
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

instance cell_acc : Cell (H (F := F) c arg3 arg4 arg5 arg6 arg7 arg8 arg9 arg10 arg11 arg12 arg13 arg14 arg15 arg16) (c : Thread nD τ) arg16 where
  get S := S.acc
  put S X := { S with acc := X }
  put_get _ := rfl
  open_ S := by
    unfold H
    iintro ⟨h3, h4, h5, h6, h7, h8, h9, h10, h11, h12, h13, h14, h15, h16⟩
    isplitl [h16]
    · iexact h16
    iintro %X h16
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16

end Cert.KernelIdeal.Hand

end
-- ==== Proof.Hand.IdealTrip.lean ====
/-
  The main loop's trip of `KernelIdeal`'s kernel, in its own structure: for each of the four chunks of 128 lanes and each of the
  two halves of the trip's 512 tokens, eight blocks of 32 tokens are decoded, their largest magnitudes give eight rows of
  scales, and the eight blocks are quantised. The printed trip is this program.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- Where the block of codes of chunk `c`, block `8 g + j` of trip `t` starts. -/
def xOff (t : Fin k0_t2_loop.trips) (c : Fin 4) (r : Fin 16) : Fin 3 → Nat :=
  match c with
  | ⟨0, _⟩ => k0_off8 t (BitVec.ofNat 32 (32 * r.val))
  | ⟨1, _⟩ => k0_off10 t (BitVec.ofNat 32 (32 * r.val))
  | ⟨2, _⟩ => k0_off12 t (BitVec.ofNat 32 (32 * r.val))
  | ⟨3, _⟩ => k0_off14 t (BitVec.ofNat 32 (32 * r.val))

theorem xOff_eq (t : Fin k0_t2_loop.trips) (c : Fin 4) (r : Fin 16) : xOff t c r = ![0, 512 * t.val + 32 * r.val, 128 * c.val] :=
  match c with
  | ⟨0, _⟩ => k0_off8_eq t r
  | ⟨1, _⟩ => k0_off10_eq t r
  | ⟨2, _⟩ => k0_off12_eq t r
  | ⟨3, _⟩ => k0_off14_eq t r

theorem xOff_inb (t : Fin k0_t2_loop.trips) (c : Fin 4) (r : Fin 16) (a : Fin 3) :
    xOff t c r a + S1x32x128.size a ≤ S1x6144x512.size a :=
  match c with
  | ⟨0, _⟩ => k0_off8_inb t r a
  | ⟨1, _⟩ => k0_off10_inb t r a
  | ⟨2, _⟩ => k0_off12_inb t r a
  | ⟨3, _⟩ => k0_off14_inb t r a

/-- Where the eight rows of scales of chunk `c`, half `g` of trip `t` start. -/
def scOff (t : Fin k0_t2_loop.trips) (c : Fin 4) (g : Fin 2) : Fin 2 → Nat :=
  match c with
  | ⟨0, _⟩ => k0_off9 t (BitVec.ofNat 32 (8 * g.val))
  | ⟨1, _⟩ => k0_off11 t (BitVec.ofNat 32 (8 * g.val))
  | ⟨2, _⟩ => k0_off13 t (BitVec.ofNat 32 (8 * g.val))
  | ⟨3, _⟩ => k0_off15 t (BitVec.ofNat 32 (8 * g.val))

theorem scOff_eq (t : Fin k0_t2_loop.trips) (c : Fin 4) (g : Fin 2) : scOff t c g = ![16 * t.val + 8 * g.val, 128 * c.val] :=
  match c with
  | ⟨0, _⟩ => k0_off9_eq t g
  | ⟨1, _⟩ => k0_off11_eq t g
  | ⟨2, _⟩ => k0_off13_eq t g
  | ⟨3, _⟩ => k0_off15_eq t g

theorem scOff_inb (t : Fin k0_t2_loop.trips) (c : Fin 4) (g : Fin 2) (a : Fin 2) :
    scOff t c g a + S8x128.size a ≤ S192x512.size a :=
  match c with
  | ⟨0, _⟩ => k0_off9_inb t g a
  | ⟨1, _⟩ => k0_off11_inb t g a
  | ⟨2, _⟩ => k0_off13_inb t g a
  | ⟨3, _⟩ => k0_off15_inb t g a

/-- The block `8 g + j` of the sixteen of a trip. -/
def blk (g : Fin 2) (j : Fin 8) : Fin 16 := ⟨g.val * 8 + j.val, by omega⟩

theorem word_inb (c : Fin 4) (g : Fin 2) (j : Fin 8) (a : Fin 2) :
    (![(g.val * 8 + j.val) * 16, c.val * 128] : Fin 2 → Nat) a + S16x128.size a ≤ S256x512.size a := by
  revert c g j a; decide +kernel

theorem tile_inb (c : Fin 4) (g : Fin 2) (j : Fin 8) (a : Fin 2) :
    (![(g.val * 8 + j.val) * 32, c.val * 128] : Fin 2 → Nat) a + S32x128.size a ≤ S512x512.size a := by
  revert c g j a; decide +kernel

theorem tile_packed (p : Nat) (hp : p ∣ 32) (c : Fin 4) (g : Fin 2) (j : Fin 8) :
    (Rect.unit (s := S512x512) ![(g.val * 8 + j.val) * 32, c.val * 128] S32x128.size (tile_inb c g j)).PackedRows p :=
  by
  have h2 : 2 ≤ S512x512.rank := by decide
  refine .inr ⟨h2, rfl, .inl ⟨?_, ?_⟩⟩
  · show p ∣ (g.val * 8 + j.val) * 32
    exact Dvd.dvd.mul_left hp _
  · exact hp

theorem slab_inb (c : Fin 4) (g : Fin 2) (j : Fin 8) :
    ∀ a : Fin 3, S8x2x128.size a = 0 ∨ (![(c.val * 2 + g.val) * 80 + j.val, 0, 0] : Fin 3 → Nat) a + (![9, 1, 1] : Fin 3 → Nat) a * (S8x2x128.size a - 1) < S640x2x128.size a := by
  revert c g j; decide +kernel

theorem slabld_inb (c : Fin 4) (g : Fin 2) (n : Nat) (hn : n ≤ 63) (a : Fin 3) :
    (![(c.val * 2 + g.val) * 80 + n, 0, 0] : Fin 3 → Nat) a + S8x2x128.size a ≤ S640x2x128.size a := by
  have hc := c.isLt; have hg := g.isLt
  fin_cases a <;> first | (simp +decide; done) | (show (c.val * 2 + g.val) * 80 + n + 8 ≤ 640; omega)

theorem inv_inb (c : Fin 4) (g : Fin 2) (a : Fin 2) :
    (![(c.val * 2 + g.val) * 80, 0] : Fin 2 → Nat) a + S8x128.size a ≤ S640x128.size a := by
  revert c g a; decide +kernel

theorem inv1_inb (c : Fin 4) (g : Fin 2) (j : Fin 8) (a : Fin 2) :
    (![(c.val * 2 + g.val) * 80 + j.val, 0] : Fin 2 → Nat) a + S1x128.size a ≤ S640x128.size a := by
  revert c g j a; decide +kernel

/-- Eight programs in a row, before `k`. -/
def seq8 (f : Fin 8 → Prog (TpuEff nD τ sig (Elt F) Λ₀ .tc) Unit → Prog (TpuEff nD τ sig (Elt F) Λ₀ .tc) Unit) (k : Prog (TpuEff nD τ sig (Elt F) Λ₀ .tc) Unit) : Prog (TpuEff nD τ sig (Elt F) Λ₀ .tc) Unit :=
  f ⟨0, by decide⟩ <| f ⟨1, by decide⟩ <| f ⟨2, by decide⟩ <| f ⟨3, by decide⟩ <| f ⟨4, by decide⟩ <| f ⟨5, by decide⟩ <|
    f ⟨6, by decide⟩ <| f ⟨7, by decide⟩ k

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

/-- Decode block `8 g + j` of chunk `c`: keep the decoded block and, per lane, the magnitudes of its two halves. -/
def decode (t : Fin k0_t2_loop.trips) (c : Fin 4) (g : Fin 2) (j : Fin 8) (k : Prog (TpuEff nD τ sig (Elt F) Λ₀ .tc) Unit) : Prog (TpuEff nD τ sig (Elt F) Λ₀ .tc) Unit :=
  .op (.load arg3 (Rect.unit (s := S1x6144x512) (xOff t c (blk g j)) S1x32x128.size (xOff_inb t c (blk g j))).toLoadRect (View.loadsAt_vmem h_S1x32x128)) fun (x : Vec F S1x32x128 .fp8e4m3) =>
  .op (.load arg10 (Rect.unit (s := S256x512) ![(g.val * 8 + j.val) * 16, c.val * 128] S16x128.size (word_inb c g j)).toLoadRect (View.loadsAt_vmem h_S16x128)) fun (w : Vec F S16x128 .i32) =>
  .op (.load arg11 (Rect.unit (s := S512x512) ![(g.val * 8 + j.val) * 32, c.val * 128] S32x128.size (tile_inb c g j)).toLoadRect (View.loadsAt_vmem h_S32x128)) fun (_ : Vec F S32x128 .bf16) =>
  .op (.store arg11 (Rect.unit (s := S512x512) ![(g.val * 8 + j.val) * 32, c.val * 128] S32x128.size (tile_inb c g j)) (k0_pay11 x w) Finset.univ (View.stores_vmem h_S32x128 (harg11.storeExact_slice rfl _ (tile_packed (EltTy.packing .bf16) (by decide) c g j)) (fun _ => rfl)) (.inl rfl)) fun _ =>
  .op (.load arg12 (⟨![(c.val * 2 + g.val) * 80 + j.val, 0, 0], S8x2x128.size, ![9, 1, 1], slab_inb c g j⟩ : LoadRect S640x2x128) (View.loadsAt_vmem h_S8x2x128)) fun (_ : Vec F S8x2x128 .bf16) =>
  .op (.store arg12 ⟨(⟨![(c.val * 2 + g.val) * 80 + j.val, 0, 0], S8x2x128.size, ![9, 1, 1], slab_inb c g j⟩ : LoadRect S640x2x128), spos_9_1_1⟩ (k0_pay12 x w) Finset.univ (View.stores_vmem h_S8x2x128 ((harg12.pairWhole rank2_S640x2x128).storeExact_slice rfl _ (Rect.WholeRows.intro rank2_S640x2x128 rfl rfl rfl) pairs_S640x2x128_bf16) (fun _ => rfl)) (.inl rfl)) fun _ =>
  k

/-- The eight scales of half `g`, per lane of chunk `c`, from the eight largest magnitudes. -/
def scales (t : Fin k0_t2_loop.trips) (c : Fin 4) (g : Fin 2) (k : Prog (TpuEff nD τ sig (Elt F) Λ₀ .tc) Unit) : Prog (TpuEff nD τ sig (Elt F) Λ₀ .tc) Unit :=
  .op (.load arg12 (Rect.unit (s := S640x2x128) ![(c.val * 2 + g.val) * 80 + 0, 0, 0] S8x2x128.size (slabld_inb c g 0 (by decide))).toLoadRect (View.loadsAt_vmem h_S8x2x128)) fun (a0 : Vec F S8x2x128 .bf16) =>
  .op (.load arg12 (Rect.unit (s := S640x2x128) ![(c.val * 2 + g.val) * 80 + 9, 0, 0] S8x2x128.size (slabld_inb c g 9 (by decide))).toLoadRect (View.loadsAt_vmem h_S8x2x128)) fun (a1 : Vec F S8x2x128 .bf16) =>
  .op (.load arg12 (Rect.unit (s := S640x2x128) ![(c.val * 2 + g.val) * 80 + 18, 0, 0] S8x2x128.size (slabld_inb c g 18 (by decide))).toLoadRect (View.loadsAt_vmem h_S8x2x128)) fun (a2 : Vec F S8x2x128 .bf16) =>
  .op (.load arg12 (Rect.unit (s := S640x2x128) ![(c.val * 2 + g.val) * 80 + 27, 0, 0] S8x2x128.size (slabld_inb c g 27 (by decide))).toLoadRect (View.loadsAt_vmem h_S8x2x128)) fun (a3 : Vec F S8x2x128 .bf16) =>
  .op (.load arg12 (Rect.unit (s := S640x2x128) ![(c.val * 2 + g.val) * 80 + 36, 0, 0] S8x2x128.size (slabld_inb c g 36 (by decide))).toLoadRect (View.loadsAt_vmem h_S8x2x128)) fun (a4 : Vec F S8x2x128 .bf16) =>
  .op (.load arg12 (Rect.unit (s := S640x2x128) ![(c.val * 2 + g.val) * 80 + 45, 0, 0] S8x2x128.size (slabld_inb c g 45 (by decide))).toLoadRect (View.loadsAt_vmem h_S8x2x128)) fun (a5 : Vec F S8x2x128 .bf16) =>
  .op (.load arg12 (Rect.unit (s := S640x2x128) ![(c.val * 2 + g.val) * 80 + 54, 0, 0] S8x2x128.size (slabld_inb c g 54 (by decide))).toLoadRect (View.loadsAt_vmem h_S8x2x128)) fun (a6 : Vec F S8x2x128 .bf16) =>
  .op (.load arg12 (Rect.unit (s := S640x2x128) ![(c.val * 2 + g.val) * 80 + 63, 0, 0] S8x2x128.size (slabld_inb c g 63 (by decide))).toLoadRect (View.loadsAt_vmem h_S8x2x128)) fun (a7 : Vec F S8x2x128 .bf16) =>
  let y : FVec F S8x128 .f32 := k0_pay42 (k0_pay40 a0) (k0_pay41 a1) a2 a3 a4 a5 a6 a7
  let ef : IVec S8x128 32 := k0_pay45 y k0_pay43 k0_pay44
  let ef1 : IVec S8x128 32 := k0_pay46 y k0_pay43 k0_pay44
  .op (.load arg13 (Rect.unit (s := S640x128) ![(c.val * 2 + g.val) * 80, 0] S8x128.size (inv_inb c g)).toLoadRect (View.loadsAt_vmem h_S8x128)) fun (_ : Vec F S8x128 .i32) =>
  .op (.store arg13 (Rect.unit (s := S640x128) ![(c.val * 2 + g.val) * 80, 0] S8x128.size (inv_inb c g)) (k0_pay49 (k0_pay48 y ef ef1)) Finset.univ (View.stores_vmem_bits_univ h_S8x128 rfl) (.inl rfl)) fun _ =>
  .op (.load arg15 (Rect.unit (s := S192x512) (scOff t c g) S8x128.size (scOff_inb t c g)).toLoadRect (View.loadsAt_vmem h_S8x128)) fun (_ : Vec F S8x128 .i32) =>
  .op (.store arg15 (Rect.unit (s := S192x512) (scOff t c g) S8x128.size (scOff_inb t c g)) (k0_pay50 (k0_pay47 y ef ef1)) Finset.univ (View.stores_vmem_bits_univ h_S8x128 rfl) (.inl rfl)) fun _ =>
  k

/-- Quantise block `8 g + j` of chunk `c` by its scale. -/
def quantise (c : Fin 4) (g : Fin 2) (j : Fin 8) (k : Prog (TpuEff nD τ sig (Elt F) Λ₀ .tc) Unit) : Prog (TpuEff nD τ sig (Elt F) Λ₀ .tc) Unit :=
  .op (.load arg13 (Rect.unit (s := S640x128) ![(c.val * 2 + g.val) * 80 + j.val, 0] S1x128.size (inv1_inb c g j)).toLoadRect (View.loadsAt_vmem h_S1x128)) fun (m : Vec F S1x128 .i32) =>
  .op (.load arg11 (Rect.unit (s := S512x512) ![(g.val * 8 + j.val) * 32, c.val * 128] S32x128.size (tile_inb c g j)).toLoadRect (View.loadsAt_vmem h_S32x128)) fun (v : Vec F S32x128 .bf16) =>
  .op (.load arg14 (Rect.unit (s := S512x512) ![(g.val * 8 + j.val) * 32, c.val * 128] S32x128.size (tile_inb c g j)).toLoadRect (View.loadsAt_vmem h_S32x128)) fun (_ : Vec F S32x128 .fp8e4m3) =>
  .op (.store arg14 (Rect.unit (s := S512x512) ![(g.val * 8 + j.val) * 32, c.val * 128] S32x128.size (tile_inb c g j)) (k0_pay51 m v) Finset.univ (View.stores_vmem h_S32x128 (harg14.storeExact_slice rfl _ (tile_packed (EltTy.packing .fp8e4m3) (by decide) c g j)) (fun _ => rfl)) (.inl rfl)) fun _ =>
  k

/-- Chunk `c`, half `g`. -/
def group (t : Fin k0_t2_loop.trips) (c : Fin 4) (g : Fin 2) (k : Prog (TpuEff nD τ sig (Elt F) Λ₀ .tc) Unit) : Prog (TpuEff nD τ sig (Elt F) Λ₀ .tc) Unit :=
  seq8 (decode arg3 arg10 arg11 harg11 arg12 harg12 t c g) <|
  scales arg12 arg13 arg15 t c g <|
  seq8 (quantise arg11 arg13 arg14 harg14 c g) k

/-- The scales of the trip's tokens as words, and the sums over the tokens. -/
def prologue (v38 : FVec F S256x512 .bf16) (t : Fin k0_t2_loop.trips) (k : Prog (TpuEff nD τ sig (Elt F) Λ₀ .tc) Unit) : Prog (TpuEff nD τ sig (Elt F) Λ₀ .tc) Unit :=
  .op (.load arg8 (Rect.unit (s := S3072x256) (k0_off5 t) S256x256.size (k0_off5_inb t)).toLoadRect (View.loadsAt_vmem h_S256x256)) fun (a : Vec F S256x256 .bf16) =>
  .op (.load arg10 (Rect.unit (s := S256x512) ![0, 0] S256x512.size inb_S256x512_S256x512_0_0).toLoadRect (View.loadsAt_vmem h_S256x512)) fun (_ : Vec F S256x512 .i32) =>
  .op (.store arg10 (Rect.unit (s := S256x512) ![0, 0] S256x512.size inb_S256x512_S256x512_0_0) (k0_pay8 v38 a) Finset.univ (View.stores_vmem_bits_univ h_S256x512 rfl) (.inl rfl)) fun _ =>
  .op (.load arg3 (Rect.unit (s := S1x6144x512) (k0_off6 t) S1x512x512.size (k0_off6_inb t)).toLoadRect (View.loadsAt_vmem h_S1x512x512)) fun (x : Vec F S1x512x512 .fp8e4m3) =>
  .op (.load arg16 (Rect.unit (s := S16x512) ![0, 0] S16x512.size inb_S16x512_S16x512_0_0).toLoadRect (View.loadsAt_vmem h_S16x512)) fun (s : Vec F S16x512 .f32) =>
  .op (.load arg9 (Rect.unit (s := S128x6144) (k0_off7 i t) S16x512.size (k0_off7_inb i t)).toLoadRect (View.loadsAt_vmem h_S16x512)) fun (m : Vec F S16x512 .bf16) =>
  .op (.load arg16 (Rect.unit (s := S16x512) ![0, 0] S16x512.size inb_S16x512_S16x512_0_0).toLoadRect (View.loadsAt_vmem h_S16x512)) fun (_ : Vec F S16x512 .f32) =>
  .op (.store arg16 (Rect.unit (s := S16x512) ![0, 0] S16x512.size inb_S16x512_S16x512_0_0) (k0_pay9 x s m) Finset.univ (View.stores_vmem_bits_univ h_S16x512 rfl) (.inl rfl)) fun _ =>
  k

/-- The trip's quantised block of codes into the result, transposed. -/
def epilogue (t : Fin k0_t2_loop.trips) (k : Prog (TpuEff nD τ sig (Elt F) Λ₀ .tc) Unit) : Prog (TpuEff nD τ sig (Elt F) Λ₀ .tc) Unit :=
  .op (.load arg14 (Rect.unit (s := S512x512) ![0, 0] S512x512.size inb_S512x512_S512x512_0_0).toLoadRect (View.loadsAt_vmem h_S512x512)) fun (q : Vec F S512x512 .fp8e4m3) =>
  .op (.load arg5 (Rect.unit (s := S1x512x6144) (k0_off16 t) S1x512x512.size (k0_off16_inb t)).toLoadRect (View.loadsAt_vmem h_S1x512x512)) fun (_ : Vec F S1x512x512 .fp8e4m3) =>
  .op (.store arg5 (Rect.unit (s := S1x512x6144) (k0_off16 t) S1x512x512.size (k0_off16_inb t)) (k0_pay440 q) Finset.univ (View.stores_vmem h_S1x512x512 (harg5.storeExact_slice rfl _ (k0_off16_packedfp8e4m3 t)) (fun _ => rfl)) (.inl rfl)) fun _ =>
  k

/-- One trip. -/
def trip (v38 : FVec F S256x512 .bf16) : Fin k0_t2_loop.trips → Unit → Prog (TpuEff nD τ sig (Elt F) Λ₀ .tc) Unit :=
  fun t _ =>
    prologue i arg3 arg8 arg9 arg10 arg16 v38 t <|
    group arg3 arg10 arg11 harg11 arg12 harg12 arg13 arg14 harg14 arg15 t ⟨0, by decide⟩ ⟨0, by decide⟩ <|
    group arg3 arg10 arg11 harg11 arg12 harg12 arg13 arg14 harg14 arg15 t ⟨0, by decide⟩ ⟨1, by decide⟩ <|
    group arg3 arg10 arg11 harg11 arg12 harg12 arg13 arg14 harg14 arg15 t ⟨1, by decide⟩ ⟨0, by decide⟩ <|
    group arg3 arg10 arg11 harg11 arg12 harg12 arg13 arg14 harg14 arg15 t ⟨1, by decide⟩ ⟨1, by decide⟩ <|
    group arg3 arg10 arg11 harg11 arg12 harg12 arg13 arg14 harg14 arg15 t ⟨2, by decide⟩ ⟨0, by decide⟩ <|
    group arg3 arg10 arg11 harg11 arg12 harg12 arg13 arg14 harg14 arg15 t ⟨2, by decide⟩ ⟨1, by decide⟩ <|
    group arg3 arg10 arg11 harg11 arg12 harg12 arg13 arg14 harg14 arg15 t ⟨3, by decide⟩ ⟨0, by decide⟩ <|
    group arg3 arg10 arg11 harg11 arg12 harg12 arg13 arg14 harg14 arg15 t ⟨3, by decide⟩ ⟨1, by decide⟩ <|
    epilogue arg5 harg5 arg14 t <|
    .ret ()

end Cert.KernelIdeal.Hand

end
-- ==== Proof.Hand.IdealTripEq.lean ====
/-
  The printed trip of the main loop is the structured one.
-/
module

public import proofs.«01_k».proof.Proof.Hand.IdealTrip

@[expose] public section

noncomputable section

namespace Cert.KernelIdeal.Hand

open Cert.KernelIdeal Cert.KernelIdeal.Gen
open Idealize.ShloMosaic Idealize.SL.Sem

variable {F : FTy → Type} [FloatOps F]

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

set_option maxRecDepth 100000 in
set_option maxHeartbeats 0 in
theorem t2_body_eq (arg2 : BitVec 32) (v38 : FVec F S256x512 .bf16) (v39 : FVec F S16x512 .f32) :
    k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v38 v39
      = trip i arg3 arg5 harg5 arg8 arg9 arg10 arg11 harg11 arg12 harg12 arg13 arg14 harg14 arg15 arg16 v38 := by
  funext t u
  rfl

end Cert.KernelIdeal.Hand

end
-- ==== Proof.Hand.IdealSafe.lean ====
/-
  `KernelIdeal`'s kernel at one grid point, from buffers at any values: it runs, and its two inputs' buffers keep theirs.
-/
module

public import proofs.«01_k».proof.Proof.Hand.IdealBufs
public import proofs.«01_k».proof.Proof.Hand.IdealTripEq

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

/-- From the buffers at `S` the program runs to `Q`. -/
abbrev Go {α : Type} (S : St F) (p : Prog (TpuEff nD τ sig (Elt F) Λ₀ .tc) α) (Q : α → St F → Prop) : Prop :=
  Runs (defs₀ (F := F)) Variants.none (c : Thread nD τ) Set.univ (H (F := F) c arg3 arg4 arg5 arg6 arg7 arg8 arg9 arg10 arg11 arg12 arg13 arg14 arg15 arg16) S p Q

/-- The inputs' buffers hold `x` and `s`. -/
def Keeps (x : S1x6144x512.Idx → Elt F .fp8e4m3) (s : S1x6144x128.Idx → Elt F .i8) (S : St F) : Prop := S.x = x ∧ S.s = s

variable {x : S1x6144x512.Idx → Elt F .fp8e4m3} {s : S1x6144x128.Idx → Elt F .i8}

theorem seq8_rule {f : Fin 8 → Prog (TpuEff nD τ sig (Elt F) Λ₀ .tc) Unit → Prog (TpuEff nD τ sig (Elt F) Λ₀ .tc) Unit}
    {k : Prog (TpuEff nD τ sig (Elt F) Λ₀ .tc) Unit} {Q : Unit → St F → Prop} (I : Nat → St F → Prop)
    (hf : ∀ (j : Fin 8) k', (∀ S, I (j.val + 1) S → Go arg3 arg4 arg5 arg6 arg7 arg8 arg9 arg10 arg11 arg12 arg13 arg14 arg15 arg16 c S k' Q) → ∀ S, I j.val S → Go arg3 arg4 arg5 arg6 arg7 arg8 arg9 arg10 arg11 arg12 arg13 arg14 arg15 arg16 c S (f j k') Q)
    (hk : ∀ S, I 8 S → Go arg3 arg4 arg5 arg6 arg7 arg8 arg9 arg10 arg11 arg12 arg13 arg14 arg15 arg16 c S k Q) : ∀ S, I 0 S → Go arg3 arg4 arg5 arg6 arg7 arg8 arg9 arg10 arg11 arg12 arg13 arg14 arg15 arg16 c S (seq8 f k) Q :=
  hf 0 _ <| hf 1 _ <| hf 2 _ <| hf 3 _ <| hf 4 _ <| hf 5 _ <| hf 6 _ <| hf 7 _ hk

section Safe

variable {k : Prog (TpuEff nD τ sig (Elt F) Λ₀ .tc) Unit} {Q : Unit → St F → Prop}
variable (hk : ∀ S, Keeps x s S → Go arg3 arg4 arg5 arg6 arg7 arg8 arg9 arg10 arg11 arg12 arg13 arg14 arg15 arg16 c S k Q)

include hk

theorem safe_decode (t : Fin k0_t2_loop.trips) (l : Fin 4) (g : Fin 2) (j : Fin 8) (S : St F) (hS : Keeps x s S) :
    Go arg3 arg4 arg5 arg6 arg7 arg8 arg9 arg10 arg11 arg12 arg13 arg14 arg15 arg16 c S (decode arg3 arg10 arg11 harg11 arg12 harg12 t l g j k) Q := by
  unfold decode Go
  refine Runs.load_op ?_
  refine Runs.load_op ?_
  refine Runs.load_op ?_
  refine Runs.store_op ?_
  refine Runs.load_op ?_
  refine Runs.store_op ?_
  exact hk _ ⟨hS.1, hS.2⟩

theorem safe_scales (t : Fin k0_t2_loop.trips) (l : Fin 4) (g : Fin 2) (S : St F) (hS : Keeps x s S) :
    Go arg3 arg4 arg5 arg6 arg7 arg8 arg9 arg10 arg11 arg12 arg13 arg14 arg15 arg16 c S (scales arg12 arg13 arg15 t l g k) Q := by
  unfold scales Go
  refine Runs.load_op ?_
  refine Runs.load_op ?_
  refine Runs.load_op ?_
  refine Runs.load_op ?_
  refine Runs.load_op ?_
  refine Runs.load_op ?_
  refine Runs.load_op ?_
  refine Runs.load_op ?_
  refine Runs.load_op ?_
  refine Runs.store_op ?_
  refine Runs.load_op ?_
  refine Runs.store_op ?_
  exact hk _ ⟨hS.1, hS.2⟩

theorem safe_quantise (l : Fin 4) (g : Fin 2) (j : Fin 8) (S : St F) (hS : Keeps x s S) :
    Go arg3 arg4 arg5 arg6 arg7 arg8 arg9 arg10 arg11 arg12 arg13 arg14 arg15 arg16 c S (quantise arg11 arg13 arg14 harg14 l g j k) Q := by
  unfold quantise Go
  refine Runs.load_op ?_
  refine Runs.load_op ?_
  refine Runs.load_op ?_
  refine Runs.store_op ?_
  exact hk _ ⟨hS.1, hS.2⟩

theorem safe_group (t : Fin k0_t2_loop.trips) (l : Fin 4) (g : Fin 2) (S : St F) (hS : Keeps x s S) :
    Go arg3 arg4 arg5 arg6 arg7 arg8 arg9 arg10 arg11 arg12 arg13 arg14 arg15 arg16 c S (group arg3 arg10 arg11 harg11 arg12 harg12 arg13 arg14 harg14 arg15 t l g k) Q :=
  seq8_rule arg3 arg4 arg5 arg6 arg7 arg8 arg9 arg10 arg11 arg12 arg13 arg14 arg15 arg16 c (fun _ => Keeps x s) (fun j k' h => safe_decode arg3 arg4 arg5 arg6 arg7 arg8 arg9 arg10 arg11 harg11 arg12 harg12 arg13 arg14 arg15 arg16 c h t l g j)
    (safe_scales arg3 arg4 arg5 arg6 arg7 arg8 arg9 arg10 arg11 arg12 arg13 arg14 arg15 arg16 c (seq8_rule arg3 arg4 arg5 arg6 arg7 arg8 arg9 arg10 arg11 arg12 arg13 arg14 arg15 arg16 c (fun _ => Keeps x s)
      (fun j k' h => safe_quantise arg3 arg4 arg5 arg6 arg7 arg8 arg9 arg10 arg11 arg12 arg13 arg14 harg14 arg15 arg16 c h l g j) hk) t l g) S hS

theorem safe_prologue (v38 : FVec F S256x512 .bf16) (t : Fin k0_t2_loop.trips) (S : St F) (hS : Keeps x s S) :
    Go arg3 arg4 arg5 arg6 arg7 arg8 arg9 arg10 arg11 arg12 arg13 arg14 arg15 arg16 c S (prologue i arg3 arg8 arg9 arg10 arg16 v38 t k) Q := by
  unfold prologue Go
  refine Runs.load_op ?_
  refine Runs.load_op ?_
  refine Runs.store_op ?_
  refine Runs.load_op ?_
  refine Runs.load_op ?_
  refine Runs.load_op ?_
  refine Runs.load_op ?_
  refine Runs.store_op ?_
  exact hk _ ⟨hS.1, hS.2⟩

theorem safe_epilogue (t : Fin k0_t2_loop.trips) (S : St F) (hS : Keeps x s S) :
    Go arg3 arg4 arg5 arg6 arg7 arg8 arg9 arg10 arg11 arg12 arg13 arg14 arg15 arg16 c S (epilogue arg5 harg5 arg14 t k) Q := by
  unfold epilogue Go
  refine Runs.load_op ?_
  refine Runs.load_op ?_
  refine Runs.store_op ?_
  exact hk _ ⟨hS.1, hS.2⟩

end Safe

theorem safe_trip (v38 : FVec F S256x512 .bf16) (t : Fin k0_t2_loop.trips) (S : St F) (hS : Keeps x s S) :
    Go arg3 arg4 arg5 arg6 arg7 arg8 arg9 arg10 arg11 arg12 arg13 arg14 arg15 arg16 c S (trip i arg3 arg5 harg5 arg8 arg9 arg10 arg11 harg11 arg12 harg12 arg13 arg14 harg14 arg15 arg16 v38 t ())
      (fun _ S' => Keeps x s S') := by
  unfold trip
  refine safe_prologue i arg3 arg4 arg5 arg6 arg7 arg8 arg9 arg10 arg11 arg12 arg13 arg14 arg15 arg16 c (fun S hS => ?_) v38 t _ hS
  iterate 8 refine safe_group arg3 arg4 arg5 arg6 arg7 arg8 arg9 arg10 arg11 harg11 arg12 harg12 arg13 arg14 harg14 arg15 arg16 c (fun S hS => ?_) _ _ _ _ hS
  exact safe_epilogue arg3 arg4 arg5 harg5 arg6 arg7 arg8 arg9 arg10 arg11 arg12 arg13 arg14 arg15 arg16 c (fun S hS => Runs.ret hS) t _ hS

theorem safe_part_first (S : St F) (hS : Keeps x s S) :
    Go arg3 arg4 arg5 arg6 arg7 arg8 arg9 arg10 arg11 arg12 arg13 arg14 arg15 arg16 c S (k0_part94 (F := F) i arg3 harg3 arg4 harg4 arg5 harg5 arg6 harg6 arg7 harg7 arg8 harg8 arg9 harg9 arg10 harg10 arg11 harg11 arg12 harg12 arg13 harg13 arg14 harg14 arg15 harg15 arg16 harg16) (fun _ S' => Keeps x s S') := by
  rw [k0_part94_eq_skeleton]
  unfold k0_part94_skel
  dsimp only
  split
  · refine Runs.bind ?_
    refine Runs.mono (Runs.loop _ _ _ _ (fun _ _ S' => Keeps x s S') hS ?_) ?_
    · intro k a S hS
      unfold k0_t1_body
      rw [k0_part1_eq_skeleton]
      unfold k0_part1_skel
      refine Runs.bind ?_
      refine Runs.mono (Q := fun _ S' => Keeps x s S') ?_ ?_
      · refine Runs.load ?_
        refine Runs.load ?_
        refine Runs.store ?_
        refine Runs.load ?_
        refine Runs.store ?_
        refine Runs.load ?_
        refine Runs.store ?_
        exact Runs.ret ⟨hS.1, hS.2⟩
      · intro a S' hS'
        exact Runs.ret hS'
    · intro a S' hS'
      exact Runs.ret hS'
  · exact Runs.ret hS

theorem safe_part_second (arg2 : BitVec 32) (v38 : FVec F S256x512 .bf16) (v39 : FVec F S16x512 .f32) (S : St F) (hS : Keeps x s S) :
    Go arg3 arg4 arg5 arg6 arg7 arg8 arg9 arg10 arg11 arg12 arg13 arg14 arg15 arg16 c S (k0_part95 (F := F) i arg3 harg3 arg4 harg4 arg5 harg5 arg6 harg6 arg7 harg7 arg8 harg8 arg9 harg9 arg10 harg10 arg11 harg11 arg12 harg12 arg13 harg13 arg14 harg14 arg15 harg15 arg16 harg16 arg2 v38 v39) (fun _ S' => Keeps x s S') := by
  rw [k0_part95_eq_skeleton]
  unfold k0_part95_skel
  rw [t2_body_eq]
  refine Runs.load ?_
  refine Runs.store ?_
  refine Runs.bind ?_
  refine Runs.mono (Runs.loop _ _ _ _ (fun _ _ S' => Keeps x s S') ⟨hS.1, hS.2⟩ ?_) ?_
  · intro k a S hS
    exact safe_trip i arg3 arg4 arg5 harg5 arg6 arg7 arg8 arg9 arg10 arg11 harg11 arg12 harg12 arg13 arg14 harg14 arg15 arg16 c v38 k S hS
  · intro a S' hS'
    refine Runs.load ?_
    refine Runs.load ?_
    refine Runs.store ?_
    refine Runs.load ?_
    exact Runs.ret ⟨hS'.1, hS'.2⟩

theorem safe_body (S : St F) (hS : Keeps x s S) :
    Go arg3 arg4 arg5 arg6 arg7 arg8 arg9 arg10 arg11 arg12 arg13 arg14 arg15 arg16 c S (cc0_requant (F := F) i arg3 harg3 arg4 harg4 arg5 harg5 arg6 harg6 arg7 harg7 arg8 harg8 arg9 harg9 arg10 harg10 arg11 harg11 arg12 harg12 arg13 harg13 arg14 harg14 arg15 harg15 arg16 harg16) (fun _ S' => Keeps x s S') := by
  rw [cc0_requant_eq_skeleton]
  unfold cc0_requant_skel
  refine Runs.bind ?_
  refine (safe_part_first i arg3 harg3 arg4 harg4 arg5 harg5 arg6 harg6 arg7 harg7 arg8 harg8 arg9 harg9 arg10 harg10 arg11 harg11 arg12 harg12 arg13 harg13 arg14 harg14 arg15 harg15 arg16 harg16 c S hS).mono ?_
  intro a S' hS'
  obtain ⟨arg0, arg1, arg2, v38, v39⟩ := a
  refine Runs.bind ?_
  refine (safe_part_second i arg3 harg3 arg4 harg4 arg5 harg5 arg6 harg6 arg7 harg7 arg8 harg8 arg9 harg9 arg10 harg10 arg11 harg11 arg12 harg12 arg13 harg13 arg14 harg14 arg15 harg15 arg16 harg16 c arg2 v38 v39 S' hS').mono ?_
  intro a S' hS'
  obtain ⟨v76, v77, cst_26⟩ := a
  refine Runs.load ?_
  refine Runs.load ?_
  refine Runs.store ?_
  exact Runs.ret ⟨hS'.1, hS'.2⟩

end Cert.KernelIdeal.Hand

end
-- ==== Proof.Hand.IdealBody.lean ====
/-
  The launch of `KernelIdeal`: the kernel at every grid point in terms of its buffers' values, and from it the run of @main.
-/
module

public import proofs.«01_k».proof.Proof.Hand.IdealSafe
public import Idealize.ShloMosaic.Lib.Pipeline.Frame
public import Idealize.ShloMosaic.Lib.StableHlo.RunHlo

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch between two grid points: whole, the prepared scales in the relation `J`, and the generator's register. -/
def Between (J : (S3072x256.Idx → Elt F .bf16) → (S128x6144.Idx → Elt F .bf16) → Prop) (c : Dev nD) : sProp 𝕄 :=
  iprop(∃ X8 X9, ⌜J X8 X9⌝ ∗ owns (c : Thread nD τ) (Memref.whole cc0_scratch0) fullShare X8
    ∗ owns (c : Thread nD τ) (Memref.whole cc0_scratch1) fullShare X9
    ∗ (∃ X, owns (c : Thread nD τ) (Memref.whole cc0_scratch2) fullShare X)
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X)
    ∗ (∃ X, owns (c : Thread nD τ) (Memref.whole cc0_scratch8) fullShare X)
    ∗ ∃ r, prngReg c r)

/-- From what the region is entered with, any `J` that always holds. -/
theorem between_of (J : (S3072x256.Idx → Elt F .bf16) → (S128x6144.Idx → Elt F .bf16) → Prop) (hJ : ∀ a b, J a b) (c : Dev nD) :
    (Pipeline.ΦA spec0 c : sProp 𝕄) ⊢ Between J c := by
  unfold Pipeline.ΦA Between
  rw [scopedRest0_eq]
  iintro ⟨⟨⟨%f0, h0⟩, ⟨%f1, h1⟩, ⟨%f2, h2⟩, ⟨%f3, h3⟩, ⟨%f4, h4⟩, ⟨%f5, h5⟩, ⟨%f6, h6⟩, ⟨%f7, h7⟩, ⟨%f8, h8⟩⟩, Hg⟩
  simp only [owns_whole]
  iexists f0; iexists f1
  isplitr
  · ipureintro; exact hJ _ _
  isplitl [h0]; · iexact h0
  isplitl [h1]; · iexact h1
  isplitl [h2]; · iexists f2; iexact h2
  isplitl [h3]; · iexists f3; iexact h3
  isplitl [h4]; · iexists f4; iexact h4
  isplitl [h5]; · iexists f5; iexact h5
  isplitl [h6]; · iexists f6; iexact h6
  isplitl [h7]; · iexists f7; iexact h7
  isplitl [h8]; · iexists f8; iexact h8
  iexact Hg

theorem of_between (J : (S3072x256.Idx → Elt F .bf16) → (S128x6144.Idx → Elt F .bf16) → Prop) (c : Dev nD) :
    Between J c ⊢ (Pipeline.ΦA spec0 c : sProp 𝕄) := by
  unfold Pipeline.ΦA Between
  rw [scopedRest0_eq]
  simp only [owns_whole]
  iintro ⟨%X8, %X9, %hJ, h0, h1, ⟨%f2, h2⟩, ⟨%f3, h3⟩, ⟨%f4, h4⟩, ⟨%f5, h5⟩, ⟨%f6, h6⟩, ⟨%f7, h7⟩, ⟨%f8, h8⟩, Hg⟩
  isplitr [Hg]
  · isplitl [h0]; · iexists X8; iexact h0
    isplitl [h1]; · iexists X9; iexact h1
    isplitl [h2]; · iexists f2; iexact h2
    isplitl [h3]; · iexists f3; iexact h3
    isplitl [h4]; · iexists f4; iexact h4
    isplitl [h5]; · iexists f5; iexact h5
    isplitl [h6]; · iexists f6; iexact h6
    isplitl [h7]; · iexists f7; iexact h7
    iexists f8; iexact h8
  · iexact Hg

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The kernel's run at point `t` of the grid, on the buffers it is handed there. -/
abbrev At (c : Dev nD) (t : Fin cfg0.N) (S : St F) (Q : PUnit → St F → Prop) : Prop :=
  Go (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) c S (bodyAt0 t) Q

/-- Relational proof data of the region. -/
abbrev rdat (J : Fin (cfg0.N + 1) → (S3072x256.Idx → Elt F .bf16) → (S128x6144.Idx → Elt F .bf16) → Prop)
    (R : (w : Fin cfg0.W) → Fin cfg0.N → (Y X : (cfg0.win w).block.Idx → Elt F (cfg0.win w).elt) → Prop) (c : Dev nD) :
    RDat τ (Elt F) Unit ℕ (UR sig nD τ) ℕ cfg0 c where
  A w := V m c (Pipeline.arrRef spec0 w)
  after := R
  Φ t := Between (J t) c
  q _ := fullShare
  owed _ := 0

/-- The body obligation from the kernel's runs. -/
theorem obligation (J : Fin (cfg0.N + 1) → (S3072x256.Idx → Elt F .bf16) → (S128x6144.Idx → Elt F .bf16) → Prop)
    (R : (w : Fin cfg0.W) → Fin cfg0.N → (Y X : (cfg0.win w).block.Idx → Elt F (cfg0.win w).elt) → Prop) (c : Dev nD)
    (h : ∀ (t : Fin cfg0.N) (S : St F), (rdat m J R c).Finds 0 t S.x → (rdat m J R c).Finds 1 t S.s → (rdat m J R c).Finds 2 t S.codes →
      (rdat m J R c).Finds 3 t S.scale → (rdat m J R c).Finds 4 t S.dbias → J t.castSucc S.lhs S.mt →
      At c t S fun _ S' => J t.succ S'.lhs S'.mt ∧ R 0 t S.x S'.x ∧ R 1 t S.s S'.s ∧ R 2 t S.codes S'.codes
        ∧ R 3 t S.scale S'.scale ∧ R 4 t S.dbias S'.dbias) :
    (rdat m J R c).BodyObligation (defs₀ (F := F)) Variants.none () Set.univ := fun t Y hY => by
  rw [bigSep_W0, bigSep_W0, defs₀_row]
  show iprop(Between (J t.castSucc) c ∗ Pipeline.owesWithin c 0 ((rdat m J R c).bound () t.castSucc) ∗ _) ⊢ wp _ _ _ _ (fun _ => iprop(Between (J t.succ) c
    ∗ Pipeline.owesWithin c 0 ((rdat m J R c).bound () t.succ) ∗ _))
  unfold Between Pipeline.owesWithin
  iintro ⟨⟨%X8, %X9, %hJ, h8, h9, ⟨%X10, h10⟩, ⟨%X11, h11⟩, ⟨%X12, h12⟩, ⟨%X13, h13⟩, ⟨%X14, h14⟩, ⟨%X15, h15⟩, ⟨%X16, h16⟩, Hg⟩, ⟨%W, %hW, HO⟩, h3, h4, h5, h6, h7⟩
  have hb := h t ⟨Y 0, Y 1, Y 2, Y 3, Y 4, X8, X9, X10, X11, X12, X13, X14, X15, X16⟩ (hY 0) (hY 1) (hY 2) (hY 3) (hY 4) hJ
  unfold At Go Runs H at hb
  iapply (Idealize.SL.Sem.wp_wand_r _ _)
  isplitr [Hg HO]
  · iapply hb
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    iexact h16
  iintro %a ⟨%S', %hQ, h3, h4, h5, h6, h7, h8, h9, h10, h11, h12, h13, h14, h15, h16⟩
  obtain ⟨hJ', hR0, hR1, hR2, hR3, hR4⟩ := hQ
  isplitr [HO h3 h4 h5 h6 h7]
  · iexists S'.lhs; iexists S'.mt
    isplitr
    · ipureintro; exact hJ'
    isplitl [h8]; · iexact h8
    isplitl [h9]; · iexact h9
    isplitl [h10]; · iexists S'.word; iexact h10
    isplitl [h11]; · iexists S'.v; iexact h11
    isplitl [h12]; · iexists S'.slab; iexact h12
    isplitl [h13]; · iexists S'.inv; iexact h13
    isplitl [h14]; · iexists S'.q; iexact h14
    isplitl [h15]; · iexists S'.sc; iexact h15
    isplitl [h16]; · iexists S'.acc; iexact h16
    iexact Hg
  isplitl [HO]
  · iexists W; isplitr
    · ipureintro; exact fun _ _ => Or.inl trivial
    · iexact HO
  isplitl [h3]; · iexists S'.x; isplitr; (· ipureintro; exact hR0); iexact h3
  isplitl [h4]; · iexists S'.s; isplitr; (· ipureintro; exact hR1); iexact h4
  isplitl [h5]; · iexists S'.codes; isplitr; (· ipureintro; exact hR2); iexact h5
  isplitl [h6]; · iexists S'.scale; isplitr; (· ipureintro; exact hR3); iexact h6
  iexists S'.dbias; isplitr; (· ipureintro; exact hR4); iexact h7

/-- The launched region's data for runs that say nothing of the results. -/
abbrev plain (c : Dev nD) : RDat τ (Elt F) Unit ℕ (UR sig nD τ) ℕ cfg0 c :=
  rdat m (fun _ _ _ => True) (fun w _ Y X => if w.val < 2 then X = Y else True) c

theorem plain_obligation (c : Dev nD) : (plain m c).BodyObligation (defs₀ (F := F)) Variants.none () Set.univ :=
  obligation m _ _ c fun t S _ _ _ _ _ _ =>
    (safe_body (x := S.x) (s := S.s) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) c S ⟨rfl, rfl⟩).mono fun _ S' hS' =>
      ⟨trivial, by simpa using hS'.1, by simpa using hS'.2, trivial, trivial, trivial⟩

open Classical in
set_option backward.isDefEq.respectTransparency.types false in
/-- @main runs, and leaves its arguments as they were. -/
theorem run_frame (ρ : Dev nD → PrngReg) : θ_run (Val := Elt F) (sig := sig) (defs (F := F)) (onTc (τ := τ) (main (F := F))) ⟨m, fun _ => 0, ρ⟩
    (fun r => RDat.FramePost (cfgs 0) (plain m) (V m) r ∧ r.2.sem = fun _ => 0) :=
  RDat.θ_run_frame_track cfgs (0 : Fin 1) launch0 (defs₀ (F := F)) Variants.none (plain m) m ρ main
    (hbody := fun c => plain_obligation m c) (hshare := fun c w => by unfold RDat.share; split <;> rfl) (howed := fun _ _ => rfl) (V := V m)
    (hmain := hmain m Variants.none) (hA := fun _ _ => rfl) (hin := fun c => between_of _ (fun _ _ => trivial) c)
    (hout := fun c => of_between _ c) (Q' := _) (hQ' := fun r h => h)

open Classical in
/-- The same, of the two arguments and the counters alone. -/
theorem run_quiescent (ρ : Dev nD → PrngReg) : θ_run (Val := Elt F) (sig := sig) (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run_frame m ρ) (fun r h => ⟨fun c => ⟨h.1.arr_in c (0 : Fin 5) rfl, h.1.arr_in c (1 : Fin 5) rfl⟩, h.2⟩)

end Cert.KernelIdeal.Hand

end
-- ==== Proof.Hand.Scalars.lean ====
/-
  The scalars of the two programs at the ideal values: what the scales' bytes, the packed words and the factors denote.
-/
module

public import Idealize.ShloMosaic.Lib.Pointwise

@[expose] public section

noncomputable section

namespace Cert.Hand

open Idealize.ShloMosaic

/-- A power of two, as an ideal value. -/
def two (n : ℤ) : EReal := (((2 : ℝ) ^ n : ℝ) : EReal)

/-- The factor a scale's byte stands for. -/
def pw (s : BitVec 8) : EReal := two ((s.toNat : ℤ) - 127)

/-- The fields of a normal positive pattern of `e` exponent and `m` fraction bits. -/
theorem ieee_normal {w : Nat} (e m : Nat) (b : BitVec w) (ex fr : Nat) (hs : b.extractLsb' (e + m) 1 = 0#1)
    (hx : (b.extractLsb' m e).toNat = ex) (hf : (b.extractLsb' 0 m).toNat = fr) (h0 : ex ≠ 0) (h1 : ex ≠ 2 ^ e - 1) :
    Ideal.ieee e m b = (((2 ^ m + fr : ℕ) * (2 : ℝ) ^ ((ex : ℤ) - (2 ^ (e - 1) - 1) - m) : ℝ) : EReal) := by
  unfold Ideal.ieee
  simp only [hs, hx, hf, h0, h1, if_false]
  norm_num

theorem bf16_bits (s : BitVec 8) :
    (BitVec.ofNat 16 (s.toNat * 128)).extractLsb' 15 1 = 0#1 ∧ ((BitVec.ofNat 16 (s.toNat * 128)).extractLsb' 7 8).toNat = s.toNat
      ∧ ((BitVec.ofNat 16 (s.toNat * 128)).extractLsb' 0 7).toNat = 0 := by
  revert s; decide +kernel

theorem bf16_pw (s : BitVec 8) (h1 : 1 ≤ s.toNat) (h2 : s.toNat ≤ 254) :
    Ideal.ieee 8 7 (BitVec.ofNat 16 (s.toNat * 128)) = pw s := by
  obtain ⟨hs, hx, hf⟩ := bf16_bits s
  rw [ieee_normal 8 7 _ s.toNat 0 hs hx hf (by omega) (by omega)]
  unfold pw two
  congr 1
  rw [mul_comm, show ((s.toNat : ℤ) - 127) = ((s.toNat : ℤ) - (2 ^ (8 - 1) - 1) - ((7 : ℕ) : ℤ)) + 7 by norm_num, zpow_add₀ (by norm_num)]
  norm_num

/-- The pattern of the odd row's byte above the exponent's high bit. -/
def hiW (h l : BitVec 8) : BitVec 32 := ((h.setWidth 16 ++ l.setWidth 16) &&& 4294901760#32) ||| 1073741824#32

theorem app_bit (a b : BitVec 16) (i : ℕ) :
    (a ++ b : BitVec 32).getLsbD i = if i < 16 then b.getLsbD i else a.getLsbD (i - 16) := by
  exact BitVec.getLsbD_append (x := a) (y := b) (i := i)

theorem mask_hi (h l : BitVec 8) :
    (h.setWidth 16 ++ l.setWidth 16 : BitVec 32) &&& 4294901760#32 = h.setWidth 16 ++ 0#16 := by
  apply BitVec.eq_of_getLsbD_eq
  intro i hi
  interval_cases i <;> simp only [BitVec.getLsbD_and, app_bit] <;> simp

theorem word_lo (h l : BitVec 8) : (h.setWidth 16 ++ l.setWidth 16 : BitVec 32) &&& 255#32 = BitVec.ofNat 32 l.toNat := by
  have e : (h.setWidth 16 ++ l.setWidth 16 : BitVec 32) &&& 255#32 = 0#16 ++ l.setWidth 16 := by
    apply BitVec.eq_of_getLsbD_eq
    intro i hi
    interval_cases i <;> simp only [BitVec.getLsbD_and, app_bit] <;> simp
  rw [e]
  clear e h
  revert l
  decide +kernel

theorem word_hi (h l : BitVec 8) : hiW h l = BitVec.ofNat 32 (1073741824 + h.toNat * 65536) := by
  unfold hiW
  rw [mask_hi]
  clear l
  revert h
  decide +kernel

/-- A pattern of 32 bits that is a normal positive number. -/
theorem f32_normal (b : BitVec 32) (ex fr : Nat) (hs : b.extractLsb' 31 1 = 0#1)
    (hx : (b.extractLsb' 23 8).toNat = ex) (hf : (b.extractLsb' 0 23).toNat = fr) (h0 : ex ≠ 0) (h1 : ex ≠ 255) :
    Ideal.ofBits .f32 b = (((8388608 + fr : ℕ) * (2 : ℝ) ^ ((ex : ℤ) - 150) : ℝ) : EReal) := by
  show Ideal.ieee 8 23 b = _
  rw [ieee_normal 8 23 b ex fr hs hx hf h0 (by omega)]
  norm_num
  congr 3
  ring

theorem f32_2m23 : Ideal.ofBits .f32 872415232#32 = (((2 : ℝ) ^ (-23 : ℤ) : ℝ) : EReal) := by
  rw [f32_normal _ 104 0 (by decide) (by decide) (by decide) (by decide) (by decide)]
  norm_num
theorem f32_four : Ideal.ofBits .f32 1082130432#32 = ((4 : ℝ) : EReal) := by
  rw [f32_normal _ 129 0 (by decide) (by decide) (by decide) (by decide) (by decide)]
  norm_num
theorem f32_2p22 : Ideal.ofBits .f32 1249902592#32 = (((2 : ℝ) ^ (22 : ℤ) : ℝ) : EReal) := by
  rw [f32_normal _ 149 0 (by decide) (by decide) (by decide) (by decide) (by decide)]
  norm_num
theorem f32_2p21 : Ideal.ofBits .f32 1241513984#32 = (((2 : ℝ) ^ (21 : ℤ) : ℝ) : EReal) := by
  rw [f32_normal _ 148 0 (by decide) (by decide) (by decide) (by decide) (by decide)]
  norm_num

theorem hi_fields (h : BitVec 8) :
    let b := BitVec.ofNat 32 (1073741824 + h.toNat * 65536)
    b.extractLsb' 31 1 = 0#1 ∧ (b.extractLsb' 23 8).toNat = 128 + h.toNat / 128 ∧ (b.extractLsb' 0 23).toNat = h.toNat % 128 * 65536
      ∧ b &&& 4286578688#32 = BitVec.ofNat 32 (1073741824 + h.toNat / 128 * 8388608) := by
  revert h; decide +kernel

/-- The two addends of a packed word: its upper half with the exponent's high bit, and its lower byte scaled. -/
def lhsA (h l : BitVec 8) : EReal := Ideal.ofBits .f32 (hiW h l)
def lhsB (h l : BitVec 8) : EReal :=
  Ideal.ofBits .f32 (hiW h l &&& 4286578688#32)
    * ((((h.setWidth 16 ++ l.setWidth 16 : BitVec 32) &&& 255#32).toInt : ℝ) * Ideal.ofBits .f32 872415232#32)

theorem lhsA_eq (h l : BitVec 8) :
    lhsA h l = (((8388608 + h.toNat % 128 * 65536 : ℕ) * (2 : ℝ) ^ (((h.toNat / 128 : ℕ) : ℤ) - 22) : ℝ) : EReal) := by
  unfold lhsA
  obtain ⟨hs, hx, hf, -⟩ := hi_fields h
  have := h.isLt
  rw [word_hi, f32_normal _ _ _ hs hx hf (by omega) (by omega)]
  congr 3
  push_cast
  ring

theorem hi_top (h : BitVec 8) :
    let b := BitVec.ofNat 32 (1073741824 + h.toNat / 128 * 8388608)
    b.extractLsb' 31 1 = 0#1 ∧ (b.extractLsb' 23 8).toNat = 128 + h.toNat / 128 ∧ (b.extractLsb' 0 23).toNat = 0 := by
  revert h; decide +kernel

theorem lhsB_eq (h l : BitVec 8) :
    lhsB h l = ((l.toNat * (2 : ℝ) ^ (((h.toNat / 128 : ℕ) : ℤ) - 22) : ℝ) : EReal) := by
  unfold lhsB
  obtain ⟨-, -, -, ht⟩ := hi_fields h
  obtain ⟨hs, hx, hf⟩ := hi_top h
  have hh := h.isLt
  have hl := l.isLt
  have e : (BitVec.ofNat 32 l.toNat).toInt = (l.toNat : ℤ) := by
    rw [BitVec.toInt_eq_toNat_of_lt] <;> simp <;> omega
  rw [word_hi, ht, word_lo, e, f32_normal _ _ _ hs hx hf (by omega) (by omega), f32_2m23]
  rw [← EReal.coe_mul, ← EReal.coe_mul]
  congr 1
  rw [show (((128 + h.toNat / 128 : ℕ) : ℤ) - 150) = (((h.toNat / 128 : ℕ) : ℤ) - 22) by push_cast; ring]
  norm_num
  ring

end Cert.Hand
end
-- ==== Proof.Hand.IdealPay.lean ====
/-
  The values `KernelIdeal`'s kernel stores, at an index.
-/
module

public import proofs.«01_k».proof.Proof.Hand.IdealTrip
public import proofs.«01_k».proof.Proof.Hand.Scalars
public import Idealize.ShloMosaic.Lib.Pointwise
public import Idealize.ShloMosaic.Lib.BitcastPair

@[expose] public section

noncomputable section

namespace Cert.KernelIdeal.Hand

open Idealize.ShloMosaic
open Cert.Hand Cert.KernelIdeal Cert.KernelIdeal.Gen

/-- `k / 32` as the program computes it. -/
theorem div32 : ∀ k : Fin 512, (Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 k.val) 32#32) 0#32))
        (IntOp.subi (IntOp.divsi ArithUnit.vector (BitVec.ofNat 32 k.val) 32#32) 1#32)
        (IntOp.divsi ArithUnit.vector (BitVec.ofNat 32 k.val) 32#32)) = BitVec.ofNat 32 (k.val / 32) := by
  decide +kernel

theorem mask_eq : ∀ (p : Fin 16) (k : Fin 512), IntOp.cmpi CmpIPredicate.eq (BitVec.ofNat 32 p.val) (BitVec.ofNat 32 (k.val / 32))
    = if p.val = k.val / 32 then 1#1 else 0#1 := by
  decide +kernel

theorem pay442_at (p : Fin 16) (k : Fin 512) : k0_pay442 (ix2 p k) = if p.val = k.val / 32 then 1#1 else 0#1 := by
  pointwise [k0_pay442]
  rw [div32, mask_eq]

/-- The byte pairs' words times 128, as two halves. -/
theorem pair_halves (h l : BitVec 8) :
    BitVec.extractLsb' 0 16 (IntOp.shli ArithUnit.vector (h.setWidth 16 ++ l.setWidth 16 : BitVec 32) 7#32) = BitVec.ofNat 16 (l.toNat * 128)
      ∧ BitVec.extractLsb' 16 16 (IntOp.shli ArithUnit.vector (h.setWidth 16 ++ l.setWidth 16 : BitVec 32) 7#32) = BitVec.ofNat 16 (h.toNat * 128) := by
  have e : IntOp.shli ArithUnit.vector (h.setWidth 16 ++ l.setWidth 16 : BitVec 32) 7#32
      = (BitVec.ofNat 16 (h.toNat * 128) ++ BitVec.ofNat 16 (l.toNat * 128) : BitVec 32) := by
    show (h.setWidth 16 ++ l.setWidth 16 : BitVec 32) <<< (7#32).toNat = _
    have a : ∀ h : BitVec 8, BitVec.ofNat 16 (h.toNat * 128) = h.setWidth 16 <<< 7 := by decide +kernel
    rw [a, a]
    apply BitVec.eq_of_getLsbD_eq
    intro i hi
    interval_cases i <;> simp only [BitVec.getLsbD_shiftLeft, app_bit] <;> simp
  rw [e]
  constructor <;>
  · apply BitVec.eq_of_getLsbD_eq
    intro i hi
    interval_cases i <;> simp only [BitVec.getLsbD_extractLsb', app_bit] <;> simp

theorem pay7_at (a : Vec Ideal S1x512x128 .i8) (p : Fin 128) (k : Fin 512) (h1 : 1 ≤ (a (ix3 0 k p)).toNat) (h2 : (a (ix3 0 k p)).toNat ≤ 254) :
    k0_pay7 (F := Ideal) a (ix2 p k) = pw (a (ix3 0 k p)) := by
  have e1 : ∀ q : Fin 128, k0_pay2 a (ix2 k q) = a (ix3 0 k q) := fun q => by
    pointwise [k0_pay2]
  pointwise [k0_pay7, bitcast_32_16, bitcast_16_32]
  rcases Nat.mod_two_eq_zero_or_one p.val with hp | hp
  · rw [hp]
    refine Eq.trans (congrArg (Ideal.ofBits .bf16) (pair_halves _ _).1) ?_
    rw [← bf16_pw _ h1 h2, ← e1]
    show Ideal.ieee 8 7 _ = _
    congr 4
    refine congrArg (k0_pay2 a) ?_
    funext d; apply Fin.ext
    fin_cases d
    · rfl
    · show 2 * (p.val / 2) = p.val
      omega
  · rw [hp]
    refine Eq.trans (congrArg (Ideal.ofBits .bf16) (pair_halves _ _).2) ?_
    rw [← bf16_pw _ h1 h2, ← e1]
    show Ideal.ieee 8 7 _ = _
    congr 4
    refine congrArg (k0_pay2 a) ?_
    funext d; apply Fin.ext
    fin_cases d
    · rfl
    · show 2 * (p.val / 2) + 1 = p.val
      omega

theorem pay2_at (a : Vec Ideal S1x512x128 .i8) (k : Fin 512) (q : Fin 128) : k0_pay2 a (ix2 k q) = a (ix3 0 k q) := by
  pointwise [k0_pay2]

theorem pay2_row (a : Vec Ideal S1x512x128 .i8) (p : Fin 256) (k : Fin 128) (n : Nat) (hn) (hn' : n < 512) :
    k0_pay2 a (bitcasts_S512x128_w16_S256x128_w32.srcIdx (ix2 p k) n hn) = a (ix3 0 ⟨n, hn'⟩ k) := by
  refine (congrArg (k0_pay2 a) ?_).trans (pay2_at a ⟨n, hn'⟩ k)
  funext d; apply Fin.ext
  fin_cases d <;> rfl

theorem pay5_at (a : Vec Ideal S1x512x128 .i8) (p : Fin 256) (k : Fin 128) :
    k0_pay5 (F := Ideal) a (ix2 p k) = lhsA (a (ix3 0 ⟨2 * p.val + 1, by omega⟩ k)) (a (ix3 0 ⟨2 * p.val, by omega⟩ k)) := by
  pointwise [k0_pay5, k0_pay4, k0_pay3, bitcast_16_32]
  rw [← pay2_row a p k (2 * p.val + 1) (Shape.Bitcasts.pair_lt bitcasts_S512x128_w16_S256x128_w32 (ix2 p k) 1 (by decide)),
    ← pay2_row a p k (2 * p.val) (Shape.Bitcasts.pair_lt bitcasts_S512x128_w16_S256x128_w32 (ix2 p k) 0 (by decide))]
  rfl

theorem pay6_at (a : Vec Ideal S1x512x128 .i8) (p : Fin 256) (k : Fin 128) :
    k0_pay6 (F := Ideal) a (ix2 p k) = lhsB (a (ix3 0 ⟨2 * p.val + 1, by omega⟩ k)) (a (ix3 0 ⟨2 * p.val, by omega⟩ k)) := by
  pointwise [k0_pay6, k0_pay4, k0_pay3, bitcast_16_32]
  rw [← pay2_row a p k (2 * p.val + 1) (Shape.Bitcasts.pair_lt bitcasts_S512x128_w16_S256x128_w32 (ix2 p k) 1 (by decide)),
    ← pay2_row a p k (2 * p.val) (Shape.Bitcasts.pair_lt bitcasts_S512x128_w16_S256x128_w32 (ix2 p k) 0 (by decide))]
  rfl

theorem pay9_at (x : Vec Ideal S1x512x512 .fp8e4m3) (s : Vec Ideal S16x512 .f32) (m : Vec Ideal S16x512 .bf16) (p : Fin 16) (k : Fin 512) :
    k0_pay9 (F := Ideal) x s m (ix2 p k) = s (ix2 p k) + ∑ t : Fin 512, m (ix2 p t) * x (ix3 0 t k) := by
  pointwise [k0_pay9]

theorem pay438_at (p : Fin 16) (k : Fin 512) : k0_pay438 (F := Ideal) k0_pay437 (ix2 p k) = 0 := by
  pointwise [k0_pay438, k0_pay437]

theorem pay1_at (a0 : BitVec 32) (a : Vec Ideal S16x512 .f32) (d : Vec Ideal S1x512 .f32) (k : Fin 512) :
    k0_pay1 (F := Ideal) a0 k0_pay442 a (Ideal.ofBits .f32 0#32) d (ix2 0 k)
      = if a0 = 0#32 then a (ix2 ⟨k.val / 32, by omega⟩ k) else d (ix2 0 k) + a (ix2 ⟨k.val / 32, by omega⟩ k) := by
  have e : (∑ p : Fin 16, Scalar.select (k0_pay442 (ix2 p k)) (a (ix2 p k)) 0) = a (ix2 ⟨k.val / 32, by omega⟩ k) := by
    rw [Finset.sum_eq_single (⟨k.val / 32, by omega⟩ : Fin 16)]
    · rw [pay442_at, if_pos rfl]; rfl
    · intro p _ hp
      rw [pay442_at, if_neg (fun h => hp (Fin.ext h))]
      rfl
    · intro h; exact absurd (Finset.mem_univ _) h
  pointwise [k0_pay1]
  rw [e]
  by_cases h : a0 = 0#32
  · subst h; rw [if_pos rfl]; rfl
  · rw [if_neg h]
    have : Scalar.cmpi CmpIPredicate.eq a0 0#32 = 0#1 := by
      have e0 : (a0 == 0#32) = false := by simpa using h
      show BitVec.ofBool (a0 == 0#32) = 0#1
      rw [e0]; rfl
    rw [this]; rfl

end Cert.KernelIdeal.Hand
end
-- ==== Proof.Hand.At.lean ====
/-
  Reading a rectangle of a buffer, and a buffer with values laid over a rectangle, at an index.
-/
module

public import Idealize.ShloMosaic.Lib.Pointwise

@[expose] public section

noncomputable section

namespace Cert.Hand

open Idealize.ShloMosaic

variable {α : Type}

theorem overlay_in {s : Shape} (r : Rect s) (X : s.Idx → α) (G : r.shape.Idx → α) (y : s.Idx) (j : r.shape.Idx)
    (h : ∀ a, (y a).val = r.off a + r.stride a * (j a).val) : r.overlay X G y = G j := by
  have : y = r.emb j := funext fun a => Fin.ext (h a)
  rw [this, Rect.overlay_emb]

theorem overlay_out {s : Shape} (r : Rect s) (X : s.Idx → α) (G : r.shape.Idx → α) (y : s.Idx)
    (h : ∃ a, ∀ j < r.size a, (y a).val ≠ r.off a + r.stride a * j) : r.overlay X G y = X y := by
  apply Rect.overlay_of_not_mem
  intro hy
  obtain ⟨a, ha⟩ := h
  have hm := (LoadRect.mem_set (r := r.toLoadRect)).mp hy
  obtain ⟨j, hj, e⟩ := hm a
  exact ha j hj e

theorem overlay2_in {m n p q : Nat} (off : Fin 2 → Nat) (inb) (X : (⟨2, ![m, n]⟩ : Shape).Idx → α)
    (G : (⟨2, ![p, q]⟩ : Shape).Idx → α) (i : Fin m) (j : Fin n) (a : Fin p) (b : Fin q)
    (hi : i.val = off 0 + a.val) (hj : j.val = off 1 + b.val) :
    (Rect.unit (s := ⟨2, ![m, n]⟩) off ![p, q] inb).overlay X G (ix2 i j) = G (ix2 a b) := by
  refine overlay_in (Rect.unit (s := ⟨2, ![m, n]⟩) off ![p, q] inb) X G _ (ix2 a b) fun d => ?_
  fin_cases d
  · show i.val = off 0 + 1 * a.val
    omega
  · show j.val = off 1 + 1 * b.val
    omega

theorem overlay2_out {m n p q : Nat} (off : Fin 2 → Nat) (inb) (X : (⟨2, ![m, n]⟩ : Shape).Idx → α)
    (G : (⟨2, ![p, q]⟩ : Shape).Idx → α) (i : Fin m) (j : Fin n)
    (h : i.val < off 0 ∨ off 0 + p ≤ i.val ∨ j.val < off 1 ∨ off 1 + q ≤ j.val) :
    (Rect.unit (s := ⟨2, ![m, n]⟩) off ![p, q] inb).overlay X G (ix2 i j) = X (ix2 i j) := by
  refine overlay_out (Rect.unit (s := ⟨2, ![m, n]⟩) off ![p, q] inb) X G _ ?_
  rcases h with h | h | h | h
  · exact ⟨0, fun k hk => by show i.val ≠ off 0 + 1 * k; omega⟩
  · exact ⟨0, fun k hk => by change k < p at hk; show i.val ≠ off 0 + 1 * k; omega⟩
  · exact ⟨1, fun k hk => by show j.val ≠ off 1 + 1 * k; omega⟩
  · exact ⟨1, fun k hk => by change k < q at hk; show j.val ≠ off 1 + 1 * k; omega⟩

theorem idx2 {m n p q : Nat} (off : Fin 2 → Nat) (inb) (a : Fin p) (b : Fin q) (i : Fin m) (j : Fin n)
    (hi : i.val = off 0 + a.val) (hj : j.val = off 1 + b.val) :
    (Rect.unit (s := ⟨2, ![m, n]⟩) off ![p, q] inb).toLoadRect.idx (ix2 a b) = ix2 i j := by
  funext d
  apply Fin.ext
  fin_cases d
  · show off 0 + 1 * a.val = i.val
    omega
  · show off 1 + 1 * b.val = j.val
    omega

theorem overlay3_in {l m n o p q : Nat} (off : Fin 3 → Nat) (inb) (X : (⟨3, ![l, m, n]⟩ : Shape).Idx → α)
    (G : (⟨3, ![o, p, q]⟩ : Shape).Idx → α) (h : Fin l) (i : Fin m) (j : Fin n) (z : Fin o) (a : Fin p) (b : Fin q)
    (hh : h.val = off 0 + z.val) (hi : i.val = off 1 + a.val) (hj : j.val = off 2 + b.val) :
    (Rect.unit (s := ⟨3, ![l, m, n]⟩) off ![o, p, q] inb).overlay X G (ix3 h i j) = G (ix3 z a b) := by
  refine overlay_in (Rect.unit (s := ⟨3, ![l, m, n]⟩) off ![o, p, q] inb) X G _ (ix3 z a b) fun d => ?_
  fin_cases d
  · show h.val = off 0 + 1 * z.val
    omega
  · show i.val = off 1 + 1 * a.val
    omega
  · show j.val = off 2 + 1 * b.val
    omega

theorem overlay3_out {l m n o p q : Nat} (off : Fin 3 → Nat) (inb) (X : (⟨3, ![l, m, n]⟩ : Shape).Idx → α)
    (G : (⟨3, ![o, p, q]⟩ : Shape).Idx → α) (h : Fin l) (i : Fin m) (j : Fin n)
    (hj : j.val < off 2 ∨ off 2 + q ≤ j.val) :
    (Rect.unit (s := ⟨3, ![l, m, n]⟩) off ![o, p, q] inb).overlay X G (ix3 h i j) = X (ix3 h i j) := by
  refine overlay_out (Rect.unit (s := ⟨3, ![l, m, n]⟩) off ![o, p, q] inb) X G _ ⟨2, fun k hk => ?_⟩
  change k < q at hk
  show j.val ≠ off 2 + 1 * k
  omega

theorem idx3 {l m n o p q : Nat} (off : Fin 3 → Nat) (inb) (z : Fin o) (a : Fin p) (b : Fin q) (h : Fin l) (i : Fin m) (j : Fin n)
    (hh : h.val = off 0 + z.val) (hi : i.val = off 1 + a.val) (hj : j.val = off 2 + b.val) :
    (Rect.unit (s := ⟨3, ![l, m, n]⟩) off ![o, p, q] inb).toLoadRect.idx (ix3 z a b) = ix3 h i j := by
  funext d
  apply Fin.ext
  fin_cases d
  · show off 0 + 1 * z.val = h.val
    omega
  · show off 1 + 1 * a.val = i.val
    omega
  · show off 2 + 1 * b.val = j.val
    omega

end Cert.Hand
end
-- ==== Proof.Hand.IdealSteps.lean ====
/-
  `KernelIdeal`'s kernel at one grid point, at the ideal values: what one step of its loops does to the buffers.
-/
module

public import proofs.«01_k».proof.Proof.Hand.IdealSafe
public import proofs.«01_k».proof.Proof.Hand.IdealPay
public import proofs.«01_k».proof.Proof.Hand.At

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

/-- The buffers the trip's groups and its end leave alone are as in `S₀`. -/
def Keep (S₀ S : St Ideal) : Prop :=
  S.x = S₀.x ∧ S.s = S₀.s ∧ S.lhs = S₀.lhs ∧ S.mt = S₀.mt ∧ S.acc = S₀.acc ∧ S.dbias = S₀.dbias

variable {S₀ : St Ideal}

section Keep

variable {k : Prog (TpuEff nD τ sig (Elt Ideal) Λ₀ .tc) Unit} {Q : Unit → St Ideal → Prop}
variable (hk : ∀ S, Keep S₀ S → Go arg3 arg4 arg5 arg6 arg7 arg8 arg9 arg10 arg11 arg12 arg13 arg14 arg15 arg16 c S k Q)

include hk

theorem keep_decode (t : Fin k0_t2_loop.trips) (l : Fin 4) (g : Fin 2) (j : Fin 8) (S : St Ideal) (hS : Keep S₀ S) :
    Go arg3 arg4 arg5 arg6 arg7 arg8 arg9 arg10 arg11 arg12 arg13 arg14 arg15 arg16 c S (decode arg3 arg10 arg11 harg11 arg12 harg12 t l g j k) Q := by
  unfold decode Go
  refine Runs.load_op ?_
  refine Runs.load_op ?_
  refine Runs.load_op ?_
  refine Runs.store_op ?_
  refine Runs.load_op ?_
  refine Runs.store_op ?_
  exact hk _ ⟨hS.1, hS.2.1, hS.2.2.1, hS.2.2.2.1, hS.2.2.2.2.1, hS.2.2.2.2.2⟩

theorem keep_scales (t : Fin k0_t2_loop.trips) (l : Fin 4) (g : Fin 2) (S : St Ideal) (hS : Keep S₀ S) :
    Go arg3 arg4 arg5 arg6 arg7 arg8 arg9 arg10 arg11 arg12 arg13 arg14 arg15 arg16 c S (scales arg12 arg13 arg15 t l g k) Q := by
  unfold scales Go
  refine Runs.load_op ?_
  refine Runs.load_op ?_
  refine Runs.load_op ?_
  refine Runs.load_op ?_
  refine Runs.load_op ?_
  refine Runs.load_op ?_
  refine Runs.load_op ?_
  refine Runs.load_op ?_
  refine Runs.load_op ?_
  refine Runs.store_op ?_
  refine Runs.load_op ?_
  refine Runs.store_op ?_
  exact hk _ ⟨hS.1, hS.2.1, hS.2.2.1, hS.2.2.2.1, hS.2.2.2.2.1, hS.2.2.2.2.2⟩

theorem keep_quantise (l : Fin 4) (g : Fin 2) (j : Fin 8) (S : St Ideal) (hS : Keep S₀ S) :
    Go arg3 arg4 arg5 arg6 arg7 arg8 arg9 arg10 arg11 arg12 arg13 arg14 arg15 arg16 c S (quantise arg11 arg13 arg14 harg14 l g j k) Q := by
  unfold quantise Go
  refine Runs.load_op ?_
  refine Runs.load_op ?_
  refine Runs.load_op ?_
  refine Runs.store_op ?_
  exact hk _ ⟨hS.1, hS.2.1, hS.2.2.1, hS.2.2.2.1, hS.2.2.2.2.1, hS.2.2.2.2.2⟩

theorem keep_group (t : Fin k0_t2_loop.trips) (l : Fin 4) (g : Fin 2) (S : St Ideal) (hS : Keep S₀ S) :
    Go arg3 arg4 arg5 arg6 arg7 arg8 arg9 arg10 arg11 arg12 arg13 arg14 arg15 arg16 c S (group arg3 arg10 arg11 harg11 arg12 harg12 arg13 arg14 harg14 arg15 t l g k) Q :=
  seq8_rule arg3 arg4 arg5 arg6 arg7 arg8 arg9 arg10 arg11 arg12 arg13 arg14 arg15 arg16 c (fun _ => Keep S₀) (fun j k' h => keep_decode arg3 arg4 arg5 arg6 arg7 arg8 arg9 arg10 arg11 harg11 arg12 harg12 arg13 arg14 arg15 arg16 c h t l g j)
    (keep_scales arg3 arg4 arg5 arg6 arg7 arg8 arg9 arg10 arg11 arg12 arg13 arg14 arg15 arg16 c (seq8_rule arg3 arg4 arg5 arg6 arg7 arg8 arg9 arg10 arg11 arg12 arg13 arg14 arg15 arg16 c (fun _ => Keep S₀)
      (fun j k' h => keep_quantise arg3 arg4 arg5 arg6 arg7 arg8 arg9 arg10 arg11 arg12 arg13 arg14 harg14 arg15 arg16 c h l g j) hk) t l g) S hS

theorem keep_epilogue (t : Fin k0_t2_loop.trips) (S : St Ideal) (hS : Keep S₀ S) :
    Go arg3 arg4 arg5 arg6 arg7 arg8 arg9 arg10 arg11 arg12 arg13 arg14 arg15 arg16 c S (epilogue arg5 harg5 arg14 t k) Q := by
  unfold epilogue Go
  refine Runs.load_op ?_
  refine Runs.load_op ?_
  refine Runs.store_op ?_
  exact hk _ ⟨hS.1, hS.2.1, hS.2.2.1, hS.2.2.2.1, hS.2.2.2.2.1, hS.2.2.2.2.2⟩

end Keep

theorem prologue_rule (v38 : FVec Ideal S256x512 .bf16) (t : Fin k0_t2_loop.trips) {k : Prog (TpuEff nD τ sig (Elt Ideal) Λ₀ .tc) Unit} {Q : Unit → St Ideal → Prop} (S : St Ideal)
    (hk : ∀ S' : St Ideal, S'.x = S.x → S'.s = S.s → S'.lhs = S.lhs → S'.mt = S.mt → S'.dbias = S.dbias → S'.codes = S.codes → S'.sc = S.sc →
      (∀ (p : Fin 16) (k : Fin 512), S'.acc (ix2 p k) = S.acc (ix2 p k) + ∑ τ : Fin 512, S.mt (ix2 ⟨16 * (i 2).val + p.val, by have := (i 2).isLt; change _ < 8 at this; omega⟩ ⟨512 * t.val + τ.val, by have : t.val < 12 := t.isLt; omega⟩)
        * S.x (ix3 0 ⟨512 * t.val + τ.val, by have : t.val < 12 := t.isLt; omega⟩ k)) →
      (∀ (p : Fin 256) (k : Fin 512), S'.word (ix2 p k) = k0_pay8 v38 (fun y => S.lhs ((Rect.unit (s := S3072x256) (k0_off5 t) S256x256.size (k0_off5_inb t)).toLoadRect.idx y)) (ix2 p k)) →
      Go arg3 arg4 arg5 arg6 arg7 arg8 arg9 arg10 arg11 arg12 arg13 arg14 arg15 arg16 c S' k Q) :
    Go arg3 arg4 arg5 arg6 arg7 arg8 arg9 arg10 arg11 arg12 arg13 arg14 arg15 arg16 c S (prologue i arg3 arg8 arg9 arg10 arg16 v38 t k) Q := by
  unfold prologue Go
  refine Runs.load_op ?_
  refine Runs.load_op ?_
  refine Runs.store_op ?_
  refine Runs.load_op ?_
  refine Runs.load_op ?_
  refine Runs.load_op ?_
  refine Runs.load_op ?_
  refine Runs.store_op ?_
  refine hk _ rfl rfl rfl rfl rfl rfl rfl (fun p k => ?_) (fun p k => ?_)
  · refine (overlay2_in ![0, 0] _ _ _ p k p k (by simp) (by simp)).trans ?_
    rw [pay9_at]
    refine congr_arg₂ (· + ·) ?_ (Finset.sum_congr rfl fun τ _ => congr_arg₂ (· * ·) ?_ ?_)
    · exact congrArg S.acc (idx2 ![0, 0] _ p k p k (by simp) (by simp))
    · exact congrArg S.mt (idx2 _ _ p τ _ _ (by rw [k0_off7_eq]; rfl) (by rw [k0_off7_eq]; rfl))
    · exact congrArg S.x (idx3 _ _ 0 τ k _ _ _ (by rw [k0_off6_eq]; rfl) (by rw [k0_off6_eq]; rfl) (by rw [k0_off6_eq]; simp))
  · exact overlay2_in ![0, 0] _ _ _ p k p k (by simp) (by simp)

end Cert.KernelIdeal.Hand

end
-- ==== Proof.Hand.IdealSum.lean ====
/-
  `KernelIdeal`'s kernel at one grid point, at the ideal values: the scales it prepares and the sums over the tokens.
-/
module

public import proofs.«01_k».proof.Proof.Hand.IdealSteps

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

/-- The scales of the first `512 n` tokens are prepared. -/
def Prep (s : S1x6144x128.Idx → BitVec 8) (n : ℕ) (lhs : S3072x256.Idx → EReal) (mt : S128x6144.Idx → EReal) : Prop :=
  (∀ (k : Fin 128) (τ : Fin 6144), τ.val < 512 * n → mt (ix2 k τ) = pw (s (ix3 0 τ k)))
    ∧ (∀ (p : Fin 3072) (k : Fin 128) (q : Fin 256), p.val < 256 * n → q.val = k.val →
      lhs (ix2 p q) = lhsA (s (ix3 0 ⟨2 * p.val + 1, by omega⟩ k)) (s (ix3 0 ⟨2 * p.val, by omega⟩ k)))
    ∧ (∀ (p : Fin 3072) (k : Fin 128) (q : Fin 256), p.val < 256 * n → q.val = 128 + k.val →
      lhs (ix2 p q) = lhsB (s (ix3 0 ⟨2 * p.val + 1, by omega⟩ k)) (s (ix3 0 ⟨2 * p.val, by omega⟩ k)))

/-- Token `τ`'s value of lane `k`, by the scale of block `16 u + p`; nothing past the last token. -/
def tm (x : S1x6144x512.Idx → EReal) (s : S1x6144x128.Idx → BitVec 8) (u : Fin 8) (p : Fin 16) (k : Fin 512) (τ : ℕ) : EReal :=
  if h : τ < 6144 then pw (s (ix3 0 ⟨τ, h⟩ ⟨16 * u.val + p.val, by omega⟩)) * x (ix3 0 ⟨τ, h⟩ k) else 0

/-- One step of the preparation, on the buffers' values. -/
theorem prep_next (n : Fin k0_t1_loop.trips) (k0_h1 : k0_cond1 i = 1#1) (s : S1x6144x128.Idx → BitVec 8) (a : Vec Ideal S1x512x128 .i8)
    (lhs lhs1 lhs2 : S3072x256.Idx → Elt Ideal .bf16) (mt mt2 : S128x6144.Idx → Elt Ideal .bf16)
    (hs : ∀ y, 1 ≤ (s y : BitVec 8).toNat ∧ (s y : BitVec 8).toNat ≤ 254)
    (ha : ∀ (y : Fin 512) (z : Fin 6144) (k : Fin 128), z.val = 512 * n.val + y.val → a (ix3 0 y k) = s (ix3 0 z k))
    (h1 : lhs1 = (Rect.unit (s := S3072x256) (k0_off2 n) S256x128.size (k0_off2_inb i n k0_h1)).overlay lhs (k0_pay5 a))
    (h2 : lhs2 = (Rect.unit (s := S3072x256) (k0_off3 n) S256x128.size (k0_off3_inb i n k0_h1)).overlay lhs1 (k0_pay6 a))
    (h3 : mt2 = (Rect.unit (s := S128x6144) (k0_off4 n) S128x512.size (k0_off4_inb i n k0_h1)).overlay mt (k0_pay7 a))
    (h : Prep s n.val lhs mt) : Prep s (n.val + 1) lhs2 mt2 := by
  refine ⟨fun k τ hτ => ?_, fun p k q hp hq => ?_, fun p k q hp hq => ?_⟩
  · by_cases hn : τ.val < 512 * n.val
    · refine (congrFun h3 _).trans ((overlay2_out (k0_off4 n) _ _ _ k τ ?_).trans (h.1 k τ hn))
      rw [k0_off4_eq]; right; right; left; exact hn
    · refine (congrFun h3 _).trans ((overlay2_in (k0_off4 n) _ _ _ k τ k ⟨τ.val - 512 * n.val, by omega⟩ ?_ ?_).trans ?_)
      · rw [k0_off4_eq]; show k.val = 0 + k.val; omega
      · rw [k0_off4_eq]; show τ.val = 512 * n.val + (τ.val - 512 * n.val); omega
      · have e := ha ⟨τ.val - 512 * n.val, by omega⟩ τ k (by show τ.val = 512 * n.val + (τ.val - 512 * n.val); omega)
        refine (pay7_at a k _ ?_ ?_).trans (congrArg pw e)
        · rw [e]; exact (hs _).1
        · rw [e]; exact (hs _).2
  · by_cases hn : p.val < 256 * n.val
    · refine (congrFun h2 _).trans ((overlay2_out (k0_off3 n) _ _ _ p q ?_).trans ((congrFun h1 _).trans ((overlay2_out (k0_off2 n) _ _ _ p q ?_).trans (h.2.1 p k q hn hq))))
      · rw [k0_off3_eq]; left; exact hn
      · rw [k0_off2_eq]; left; exact hn
    · refine (congrFun h2 _).trans ((overlay2_out (k0_off3 n) _ _ _ p q ?_).trans ((congrFun h1 _).trans ((overlay2_in (k0_off2 n) _ _ _ p q ⟨p.val - 256 * n.val, by omega⟩ k ?_ ?_).trans ?_)))
      · rw [k0_off3_eq]; right; right; left; show q.val < 128; omega
      · rw [k0_off2_eq]; show p.val = 256 * n.val + (p.val - 256 * n.val); omega
      · rw [k0_off2_eq]; show q.val = 0 + k.val; omega
      · refine (pay5_at a _ _).trans (congr_arg₂ lhsA (ha _ _ _ ?_) (ha _ _ _ ?_))
        · show 2 * p.val + 1 = 512 * n.val + (2 * (p.val - 256 * n.val) + 1); omega
        · show 2 * p.val = 512 * n.val + (2 * (p.val - 256 * n.val)); omega
  · by_cases hn : p.val < 256 * n.val
    · refine (congrFun h2 _).trans ((overlay2_out (k0_off3 n) _ _ _ p q ?_).trans ((congrFun h1 _).trans ((overlay2_out (k0_off2 n) _ _ _ p q ?_).trans (h.2.2 p k q hn hq))))
      · rw [k0_off3_eq]; left; exact hn
      · rw [k0_off2_eq]; left; exact hn
    · refine (congrFun h2 _).trans ((overlay2_in (k0_off3 n) _ _ _ p q ⟨p.val - 256 * n.val, by omega⟩ k ?_ ?_).trans ?_)
      · rw [k0_off3_eq]; show p.val = 256 * n.val + (p.val - 256 * n.val); omega
      · rw [k0_off3_eq]; show q.val = 128 + k.val; omega
      · refine (pay6_at a _ _).trans (congr_arg₂ lhsB (ha _ _ _ ?_) (ha _ _ _ ?_))
        · show 2 * p.val + 1 = 512 * n.val + (2 * (p.val - 256 * n.val) + 1); omega
        · show 2 * p.val = 512 * n.val + (2 * (p.val - 256 * n.val)); omega

theorem prep_step (n : Fin k0_t1_loop.trips) (k0_h1 : k0_cond1 i = 1#1) (S : St Ideal)
    (hs : ∀ y, 1 ≤ (S.s y : BitVec 8).toNat ∧ (S.s y : BitVec 8).toNat ≤ 254) (hS : Prep S.s n.val S.lhs S.mt)
    (k : PUnit → Prog (TpuEff nD τ sig (Elt Ideal) Λ₀ .tc) Unit) {Q : Unit → St Ideal → Prop}
    (hk : ∀ S' : St Ideal, S'.x = S.x → S'.s = S.s → S'.dbias = S.dbias → Prep S.s (n.val + 1) S'.lhs S'.mt → Go arg3 arg4 arg5 arg6 arg7 arg8 arg9 arg10 arg11 arg12 arg13 arg14 arg15 arg16 c S' (k ⟨⟩) Q) :
    Go arg3 arg4 arg5 arg6 arg7 arg8 arg9 arg10 arg11 arg12 arg13 arg14 arg15 arg16 c S (k0_part1 (F := Ideal) i arg3 harg3 arg4 harg4 arg5 harg5 arg6 harg6 arg7 harg7 arg8 harg8 arg9 harg9 arg10 harg10 arg11 harg11 arg12 harg12 arg13 harg13 arg14 harg14 arg15 harg15 arg16 harg16 k0_h1 0#32 1#32 n >>= k) Q := by
  rw [k0_part1_eq_skeleton]
  unfold k0_part1_skel
  refine Runs.bind ?_
  refine Runs.load ?_
  refine Runs.load ?_
  refine Runs.store ?_
  refine Runs.load ?_
  refine Runs.store ?_
  refine Runs.load ?_
  refine Runs.store ?_
  refine Runs.ret (hk _ rfl rfl rfl ?_)
  dsimp only [Cell.get, Cell.put, cell_lhs, cell_mt, cell_s]
  refine prep_next i n k0_h1 S.s _ S.lhs _ _ S.mt _ hs ?_ rfl rfl rfl hS
  intro y z k hz
  exact congrArg S.s (idx3 (k0_off1 n) (k0_off1_inb i n k0_h1) (0 : Fin 1) y k (0 : Fin 1) z k
    (by rw [k0_off1_eq]; rfl) (by rw [k0_off1_eq]; exact hz) (by rw [k0_off1_eq]; show k.val = 0 + k.val; omega))

theorem first_rule (S : St Ideal) (hs : ∀ y, 1 ≤ (S.s y : BitVec 8).toNat ∧ (S.s y : BitVec 8).toNat ≤ 254)
    (hS : (i 2).val ≠ 0 → Prep S.s 12 S.lhs S.mt) :
    Go arg3 arg4 arg5 arg6 arg7 arg8 arg9 arg10 arg11 arg12 arg13 arg14 arg15 arg16 c S (k0_part94 (F := Ideal) i arg3 harg3 arg4 harg4 arg5 harg5 arg6 harg6 arg7 harg7 arg8 harg8 arg9 harg9 arg10 harg10 arg11 harg11 arg12 harg12 arg13 harg13 arg14 harg14 arg15 harg15 arg16 harg16) (fun a S' => S'.x = S.x ∧ S'.s = S.s ∧ S'.dbias = S.dbias ∧ Prep S.s 12 S'.lhs S'.mt
      ∧ a = ⟨BitVec.ofNat 32 (i 0).val, BitVec.ofNat 32 (i 1).val, BitVec.ofNat 32 (i 2).val, k0_pay436 (F := Ideal) i, k0_pay437 (F := Ideal)⟩) := by
  rw [k0_part94_eq_skeleton]
  unfold k0_part94_skel
  dsimp only
  split
  · next h =>
    refine Runs.bind ?_
    refine Runs.mono (Runs.loop _ _ _ _ (fun n _ S' => S'.x = S.x ∧ S'.s = S.s ∧ S'.dbias = S.dbias ∧ Prep S.s n S'.lhs S'.mt) ⟨rfl, rfl, rfl, ?_, ?_, ?_⟩ ?_) ?_
    · intro k τ hτ; omega
    · intro p k q hp; omega
    · intro p k q hp; omega
    · intro k a S' hS'
      unfold k0_t1_body
      have e0 := hS'.2.1
      refine prep_step i arg3 harg3 arg4 harg4 arg5 harg5 arg6 harg6 arg7 harg7 arg8 harg8 arg9 harg9 arg10 harg10 arg11 harg11 arg12 harg12 arg13 harg13 arg14 harg14 arg15 harg15 arg16 harg16 c k h S' (by rw [e0]; exact hs) (by rw [e0]; exact hS'.2.2.2) _ ?_
      intro S'' e1 e2 e3 e4
      rw [e0] at e4
      exact Runs.ret ⟨e1.trans hS'.1, e2.trans e0, e3.trans hS'.2.2.1, e4⟩
    · intro a S' hS'
      exact Runs.ret ⟨hS'.1, hS'.2.1, hS'.2.2.1, hS'.2.2.2, rfl⟩
  · next h =>
    refine Runs.ret ⟨rfl, rfl, rfl, hS fun h0 => h ?_, rfl⟩
    unfold k0_cond1
    simp [h0]
    decide

end Cert.KernelIdeal.Hand

end
-- ==== Proof.Hand.IdealWord.lean ====
/-
  `KernelIdeal`'s packed words: the two scales a word holds, read back from the product with the one-hot rows.
-/
module

public import proofs.«01_k».proof.Proof.Hand.IdealSum

@[expose] public section

noncomputable section

namespace Cert.KernelIdeal.Hand

open Cert.KernelIdeal Cert.KernelIdeal.Gen Cert.Hand
open Idealize.ShloMosaic Idealize.ShloMosaic.TcCoe Idealize.ShloMosaic.Tactic

theorem word_bits (h l : ℕ) (hh : h < 256) (hl : l < 256) :
    let c := if h < 128 then 1065353216 else 1073741824
    BitVec.extractLsb' 0 16 (IntOp.shli ArithUnit.vector (IntOp.addi (BitVec.ofInt 32 ((8388608 + h % 128 * 65536 + l : ℕ) : ℤ)) (BitVec.ofNat 32 c)) 7#32) = BitVec.ofNat 16 (l * 128)
      ∧ BitVec.extractLsb' 16 16 (IntOp.shli ArithUnit.vector (IntOp.addi (BitVec.ofInt 32 ((8388608 + h % 128 * 65536 + l : ℕ) : ℤ)) (BitVec.ofNat 32 c)) 7#32) = BitVec.ofNat 16 (h * 128) := by
  intro c
  have e : (IntOp.shli ArithUnit.vector (IntOp.addi (BitVec.ofInt 32 ((8388608 + h % 128 * 65536 + l : ℕ) : ℤ)) (BitVec.ofNat 32 c)) 7#32)
      = BitVec.ofNat 32 ((8388608 + h % 128 * 65536 + l + c) * 128) := by
    show (BitVec.ofInt 32 ((8388608 + h % 128 * 65536 + l : ℕ) : ℤ) + BitVec.ofNat 32 c) <<< (7#32).toNat = _
    apply BitVec.eq_of_toNat_eq
    rw [BitVec.ofInt_natCast]
    simp only [BitVec.toNat_shiftLeft, BitVec.toNat_add, BitVec.toNat_ofNat, Nat.shiftLeft_eq]
    norm_num
  rw [e]
  constructor
  · apply BitVec.eq_of_toNat_eq
    simp only [BitVec.extractLsb'_toNat, BitVec.toNat_ofNat, Nat.shiftRight_eq_div_pow, c]
    split <;> norm_num <;> omega
  · apply BitVec.eq_of_toNat_eq
    simp only [BitVec.extractLsb'_toNat, BitVec.toNat_ofNat, Nat.shiftRight_eq_div_pow, c]
    split <;> norm_num <;> omega

theorem pay436_at (i : grid0.Coords) (p : Fin 256) (k : Fin 512) :
    k0_pay436 (F := Ideal) i (ix2 p k) = if p.val % 128 = 16 * (i 2).val + k.val / 32 then (1 : EReal) else 0 := by
  pointwise [k0_pay436]
  rw [div32]
  have hu : (i 2).val < 8 := (i 2).isLt
  have hp := p.isLt
  have hk := k.isLt
  have e1 : IntOp.andi (BitVec.ofNat 32 p.val) 127#32 = BitVec.ofNat 32 (p.val % 128) := by
    show BitVec.ofNat 32 p.val &&& 127#32 = _
    apply BitVec.eq_of_toNat_eq
    simp only [BitVec.toNat_and, BitVec.toNat_ofNat]
    rw [show (127 % 2 ^ 32 : ℕ) = 2 ^ 7 - 1 by norm_num, Nat.and_two_pow_sub_one_eq_mod]
    omega
  have e2 : IntOp.addi (Scalar.muli (BitVec.ofNat 32 (i 2).val) 16#32) (BitVec.ofNat 32 (k.val / 32)) = BitVec.ofNat 32 (16 * (i 2).val + k.val / 32) := by
    show BitVec.ofNat 32 (i 2).val * 16#32 + BitVec.ofNat 32 (k.val / 32) = _
    apply BitVec.eq_of_toNat_eq
    simp only [BitVec.toNat_add, BitVec.toNat_mul, BitVec.toNat_ofNat]
    omega
  rw [e1, e2]
  by_cases h : p.val % 128 = 16 * (i 2).val + k.val / 32
  · rw [if_pos h, h]
    simp [IntOp.cmpi, Scalar.select]
  · rw [if_neg h]
    have : ¬ (BitVec.ofNat 32 (p.val % 128) = BitVec.ofNat 32 (16 * (i 2).val + k.val / 32)) := by
      intro e
      have := congrArg BitVec.toNat e
      simp only [BitVec.toNat_ofNat] at this
      omega
    have e : (BitVec.ofNat 32 (p.val % 128) == BitVec.ofNat 32 (16 * (i 2).val + k.val / 32)) = false := beq_eq_false_iff_ne.mpr this
    simp [IntOp.cmpi, Scalar.select, e]

theorem fptosi_nat (K : ℕ) (h : K < 2 ^ 31) : FloatOps.fptosi (F := Ideal) (φ := .f32) 32 (((K : ℝ) : EReal)) = BitVec.ofInt 32 (K : ℤ) := by
  show Ideal.fptosi 32 _ = _
  unfold Ideal.fptosi
  rw [Ideal.toIntClamped_coe]
  congr 1
  have hr : (0 : ℝ) ≤ K := Nat.cast_nonneg K
  simp only [Int.floor_natCast, Int.ceil_natCast, ite_self]
  norm_num
  omega

/-- The two scales of a packed word, from the two addends the product leaves. -/
theorem word_of (h l : BitVec 8) (S : EReal) (hS : S = lhsA h l + lhsB h l) :
    let W := IntOp.shli ArithUnit.vector
      (IntOp.addi
        (FloatOps.fptosi (F := Ideal) (φ := .f32) 32
          (S * if S < Ideal.ofBits FTy.f32 1082130432#32 then Ideal.ofBits FTy.f32 1249902592#32 else Ideal.ofBits FTy.f32 1241513984#32))
        (if S < Ideal.ofBits FTy.f32 1082130432#32 then 1065353216#32 else 1073741824#32)) 7#32
    BitVec.extractLsb' 0 16 W = BitVec.ofNat 16 (l.toNat * 128) ∧ BitVec.extractLsb' 16 16 W = BitVec.ofNat 16 (h.toNat * 128) := by
  intro W
  have hh := h.isLt
  have hl := l.isLt
  set K : ℕ := 8388608 + h.toNat % 128 * 65536 + l.toNat with hK
  have hK1 : K < 16777216 := by omega
  have e : S = ((K * (2 : ℝ) ^ (((h.toNat / 128 : ℕ) : ℤ) - 22) : ℝ) : EReal) := by
    rw [hS, lhsA_eq, lhsB_eq, ← EReal.coe_add]
    congr 1
    rw [hK]
    push_cast
    ring
  have key := word_bits h.toNat l.toNat hh hl
  have hKr : (K : ℝ) < 16777216 := by exact_mod_cast hK1
  have hKl : (8388608 : ℝ) ≤ K := by exact_mod_cast (by omega : 8388608 ≤ K)
  by_cases hc : h.toNat < 128
  · have hd : h.toNat / 128 = 0 := by omega
    rw [hd] at e
    have hlt : S < Ideal.ofBits FTy.f32 1082130432#32 := by
      rw [e, f32_four, EReal.coe_lt_coe_iff]
      norm_num
      linarith
    have hm : S * Ideal.ofBits FTy.f32 1249902592#32 = ((K : ℝ) : EReal) := by
      rw [e, f32_2p22, ← EReal.coe_mul]
      congr 1
      norm_num
      ring
    simp only [if_pos hc] at key
    simp only [W, if_pos hlt, hm]
    rw [fptosi_nat K (by omega)]
    exact key
  · have hd : h.toNat / 128 = 1 := by omega
    rw [hd] at e
    have hlt : ¬ S < Ideal.ofBits FTy.f32 1082130432#32 := by
      rw [e, f32_four, EReal.coe_lt_coe_iff]
      norm_num
      linarith
    have hm : S * Ideal.ofBits FTy.f32 1241513984#32 = ((K : ℝ) : EReal) := by
      rw [e, f32_2p21, ← EReal.coe_mul]
      congr 1
      norm_num
      ring
    simp only [if_neg hc] at key
    simp only [W, if_neg hlt, hm]
    rw [fptosi_nat K (by omega)]
    exact key

theorem pay8_at (i : grid0.Coords) (L : Vec Ideal S256x256 .bf16) (p : Fin 256) (k : Fin 512) (h l : BitVec 8)
    (hA : ∀ q : Fin 256, q.val = 16 * (i 2).val + k.val / 32 → L (ix2 p q) = lhsA h l)
    (hB : ∀ q : Fin 256, q.val = 128 + (16 * (i 2).val + k.val / 32) → L (ix2 p q) = lhsB h l) :
    BitVec.extractLsb' 0 16 (k0_pay8 (F := Ideal) (k0_pay436 i) L (ix2 p k)) = BitVec.ofNat 16 (l.toNat * 128)
      ∧ BitVec.extractLsb' 16 16 (k0_pay8 (F := Ideal) (k0_pay436 i) L (ix2 p k)) = BitVec.ofNat 16 (h.toNat * 128) := by
  have hu : (i 2).val < 8 := (i 2).isLt
  have hk := k.isLt
  pointwise [k0_pay8]
  refine word_of h l (∑ x : Fin 256, L (ix2 p x) * k0_pay436 (F := Ideal) i (ix2 x k)) ?_
  have e : ∀ x : Fin 256, (L (ix2 p x) * k0_pay436 (F := Ideal) i (ix2 x k) : EReal)
      = (if x.val = 16 * (i 2).val + k.val / 32 then lhsA h l else 0) + (if x.val = 128 + (16 * (i 2).val + k.val / 32) then lhsB h l else 0) := by
    intro x
    have hx := x.isLt
    rw [pay436_at]
    by_cases h1 : x.val = 16 * (i 2).val + k.val / 32
    · rw [if_pos (by omega), if_pos h1, if_neg (by omega), hA x h1, mul_one, add_zero]
    · by_cases h2 : x.val = 128 + (16 * (i 2).val + k.val / 32)
      · rw [if_pos (by omega), if_neg h1, if_pos h2, hB x h2, mul_one, zero_add]
      · rw [if_neg (by omega), if_neg h1, if_neg h2, mul_zero, add_zero]
  rw [Finset.sum_congr rfl fun x _ => e x, Finset.sum_add_distrib]
  congr 1
  · rw [Finset.sum_eq_single (⟨16 * (i 2).val + k.val / 32, by omega⟩ : Fin 256)]
    · rw [if_pos rfl]
    · intro b _ hb
      rw [if_neg]
      exact fun h => hb (Fin.ext h)
    · exact fun h => absurd (Finset.mem_univ _) h
  · rw [Finset.sum_eq_single (⟨128 + (16 * (i 2).val + k.val / 32), by omega⟩ : Fin 256)]
    · rw [if_pos rfl]
    · intro b _ hb
      rw [if_neg]
      exact fun h => hb (Fin.ext h)
    · exact fun h => absurd (Finset.mem_univ _) h

end Cert.KernelIdeal.Hand

end
-- ==== Proof.Hand.IdealScale.lean ====
/-
  `KernelIdeal`'s scales: the exponent of a bound by bisection, the scale's byte, the reciprocal's pattern and the quantised value.
-/
module

public import proofs.«01_k».proof.Proof.Hand.IdealSum

@[expose] public section

noncomputable section

namespace Cert.KernelIdeal.Hand

open Cert.KernelIdeal Cert.KernelIdeal.Gen Cert.Hand
open Idealize.ShloMosaic Idealize.ShloMosaic.TcCoe Idealize.ShloMosaic.Tactic

theorem two_le {a b : ℤ} (h : a ≤ b) : two a ≤ two b := by
  unfold two
  rw [EReal.coe_le_coe_iff]
  exact zpow_le_zpow_right₀ (by norm_num) h

/-- How many of the powers of two from the smallest normal one are at most `y`. -/
def num (y : EReal) : ℕ := (Finset.univ.filter fun k : Fin 252 => two ((k.val : ℤ) - 126) ≤ y).card

theorem num_le (y : EReal) : num y ≤ 252 := (Finset.card_le_univ _).trans (by simp)

theorem le_num (y : EReal) (n : ℕ) (h1 : 1 ≤ n) (h2 : n ≤ 252) : n ≤ num y ↔ two ((n : ℤ) - 127) ≤ y := by
  constructor
  · intro h
    by_contra hc
    have hs : (Finset.univ.filter fun k : Fin 252 => two ((k.val : ℤ) - 126) ≤ y) ⊆ Finset.univ.filter fun k : Fin 252 => k.val < n - 1 := by
      intro k hk
      rw [Finset.mem_filter] at hk ⊢
      refine ⟨Finset.mem_univ _, ?_⟩
      by_contra hk'
      exact hc ((two_le (by omega)).trans hk.2)
    have := Finset.card_le_card hs
    rw [Fin.card_filter_val_lt] at this
    unfold num at h
    omega
  · intro h
    have hs : (Finset.univ.filter fun k : Fin 252 => k.val < n) ⊆ Finset.univ.filter fun k : Fin 252 => two ((k.val : ℤ) - 126) ≤ y := by
      intro k hk
      rw [Finset.mem_filter] at hk ⊢
      exact ⟨Finset.mem_univ _, (two_le (by omega)).trans h⟩
    have := Finset.card_le_card hs
    rw [Fin.card_filter_val_lt] at this
    unfold num
    omega

/-- One step of the bisection. -/
def bis (y : EReal) (a k : BitVec 32) : BitVec 32 :=
  Scalar.select (FloatOps.cmpf (F := Ideal) (φ := .f32) .ole (Scalar.ofBits (F := Ideal) .f32 (IntOp.shli ArithUnit.vector (IntOp.minui (IntOp.addi a k) 252#32) 23#32)) y) (IntOp.minui (IntOp.addi a k) 252#32) a

theorem bis_if (y : EReal) (a k : BitVec 32) : bis y a k =
  if Ideal.ofBits FTy.f32 (IntOp.shli ArithUnit.vector (IntOp.minui (IntOp.addi a k) 252#32) 23#32) ≤ y then IntOp.minui (IntOp.addi a k) 252#32 else a := by
  unfold bis
  by_cases h : Ideal.ofBits FTy.f32 (IntOp.shli ArithUnit.vector (IntOp.minui (IntOp.addi a k) 252#32) 23#32) ≤ y
  · rw [if_pos h]
    have : FloatOps.cmpf (F := Ideal) (φ := .f32) .ole (Scalar.ofBits (F := Ideal) .f32 (IntOp.shli ArithUnit.vector (IntOp.minui (IntOp.addi a k) 252#32) 23#32)) y = 1#1 := congrArg BitVec.ofBool (decide_eq_true h)
    rw [this]; rfl
  · rw [if_neg h]
    have : FloatOps.cmpf (F := Ideal) (φ := .f32) .ole (Scalar.ofBits (F := Ideal) .f32 (IntOp.shli ArithUnit.vector (IntOp.minui (IntOp.addi a k) 252#32) 23#32)) y = 0#1 := congrArg BitVec.ofBool (decide_eq_false h)
    rw [this]; rfl

theorem pattern_fields : ∀ b : Fin 253, (IntOp.shli ArithUnit.vector (BitVec.ofNat 32 b.val) 23#32).extractLsb' 31 1 = 0#1
      ∧ ((IntOp.shli ArithUnit.vector (BitVec.ofNat 32 b.val) 23#32).extractLsb' 23 8).toNat = b.val
      ∧ ((IntOp.shli ArithUnit.vector (BitVec.ofNat 32 b.val) 23#32).extractLsb' 0 23).toNat = 0 := by decide +kernel

theorem lift_two (b : ℤ) (z : ℕ) (hz : z = 0) : ((8388608 + z : ℕ) * (2 : ℝ) ^ (b - 150) : ℝ) = (2 : ℝ) ^ (b - 127) := by
  rw [show (b - 127) = (b - 150) + 23 by ring, zpow_add₀ (by norm_num)]
  push_cast
  rw [hz]
  norm_num
  ring

theorem pattern (b : ℕ) (hb : b ≤ 252) (h : b ≠ 0) : Ideal.ofBits FTy.f32 (IntOp.shli ArithUnit.vector (BitVec.ofNat 32 b) 23#32) = two ((b : ℤ) - 127) := by
  obtain ⟨e1, e2, e3⟩ := pattern_fields ⟨b, by omega⟩
  obtain ⟨z, hz⟩ : ∃ z : ℕ, z = 0 := ⟨0, rfl⟩
  rw [f32_normal _ b z e1 e2 (e3.trans hz.symm) h (by omega), lift_two _ z hz]
  rfl

theorem bis_step (y : EReal) (m k : ℕ) (hk : 1 ≤ k) (hk' : k ≤ 128) (hm : m ≤ num y) (hn : num y < m + 2 * k) :
    ∃ m', bis y (BitVec.ofNat 32 m) (BitVec.ofNat 32 k) = BitVec.ofNat 32 m' ∧ m' ≤ num y ∧ num y < m' + k := by
  have h252 := num_le y
  have e : IntOp.minui (IntOp.addi (BitVec.ofNat 32 m) (BitVec.ofNat 32 k)) 252#32 = BitVec.ofNat 32 (min (m + k) 252) := by
    have ea : IntOp.addi (BitVec.ofNat 32 m) (BitVec.ofNat 32 k) = BitVec.ofNat 32 (m + k) := by
      show BitVec.ofNat 32 m + BitVec.ofNat 32 k = _
      rw [BitVec.ofNat_add]
    rw [ea]
    unfold IntOp.minui
    simp only [BitVec.ult, BitVec.ule, BitVec.toNat_ofNat]
    rcases le_total (m + k) 252 with h | h
    · rw [min_eq_left h]
      split
      · rfl
      · rename_i hc
        simp at hc
        have : m + k = 252 := by omega
        rw [this]
    · rw [min_eq_right h]
      split
      · rename_i hc
        simp at hc
        have : m + k = 252 := by omega
        rw [this]
      · rfl
  rw [bis_if, e, pattern (min (m + k) 252) (by omega) (by omega)]
  by_cases h : two (((min (m + k) 252 : ℕ) : ℤ) - 127) ≤ y
  · rw [if_pos h]
    have := (le_num y (min (m + k) 252) (by omega) (by omega)).mpr h
    exact ⟨_, rfl, this, by omega⟩
  · rw [if_neg h]
    have : ¬ (min (m + k) 252 ≤ num y) := fun h' => h ((le_num y _ (by omega) (by omega)).mp h')
    exact ⟨m, rfl, hm, by omega⟩

theorem bis_all (y : EReal) : bis y (bis y (bis y (bis y (bis y (bis y (bis y (bis y 0#32 128#32) 64#32) 32#32) 16#32) 8#32) 4#32) 2#32) 1#32 = BitVec.ofNat 32 (num y) := by
  have h252 := num_le y
  obtain ⟨m1, e1, a1, b1⟩ := bis_step y 0 128 (by omega) (by omega) (by omega) (by omega)
  obtain ⟨m2, e2, a2, b2⟩ := bis_step y m1 64 (by omega) (by omega) (by omega) (by omega)
  obtain ⟨m3, e3, a3, b3⟩ := bis_step y m2 32 (by omega) (by omega) (by omega) (by omega)
  obtain ⟨m4, e4, a4, b4⟩ := bis_step y m3 16 (by omega) (by omega) (by omega) (by omega)
  obtain ⟨m5, e5, a5, b5⟩ := bis_step y m4 8 (by omega) (by omega) (by omega) (by omega)
  obtain ⟨m6, e6, a6, b6⟩ := bis_step y m5 4 (by omega) (by omega) (by omega) (by omega)
  obtain ⟨m7, e7, a7, b7⟩ := bis_step y m6 2 (by omega) (by omega) (by omega) (by omega)
  obtain ⟨m8, e8, a8, b8⟩ := bis_step y m7 1 (by omega) (by omega) (by omega) (by omega)
  rw [e1, e2, e3, e4, e5, e6, e7, e8, show m8 = num y by omega]

/-- The scale of a bound. -/
def sb (y : EReal) : ℕ := if num y = 0 then 127 else num y + 1

theorem sb_pos (y : EReal) : 1 ≤ sb y := by unfold sb; split <;> omega
theorem sb_le (y : EReal) : sb y ≤ 253 := by have := num_le y; unfold sb; split <;> omega

theorem pay45_at (y : FVec Ideal S8x128 .f32) (p : Fin 8) (k : Fin 128) :
    k0_pay45 (F := Ideal) y k0_pay43 k0_pay44 (ix2 p k) = bis (y (ix2 p k)) (bis (y (ix2 p k)) (bis (y (ix2 p k)) (bis (y (ix2 p k)) (bis (y (ix2 p k)) 0#32 128#32) 64#32) 32#32) 16#32) 8#32 := by
  rfl

theorem pay47_at (y : FVec Ideal S8x128 .f32) (p : Fin 8) (k : Fin 128) :
    k0_pay47 (F := Ideal) y (k0_pay45 y k0_pay43 k0_pay44) (k0_pay46 y k0_pay43 k0_pay44) (ix2 p k) = BitVec.ofNat 32 (sb (y (ix2 p k))) := by
  have e := bis_all (y (ix2 p k))
  rw [← pay45_at] at e
  have h1 := num_le (y (ix2 p k))
  have e' : k0_pay47 (F := Ideal) y (k0_pay45 y k0_pay43 k0_pay44) (k0_pay46 y k0_pay43 k0_pay44) (ix2 p k)
      = Scalar.select (IntOp.ori (IntOp.cmpi .eq (bis (y (ix2 p k)) (bis (y (ix2 p k)) (bis (y (ix2 p k)) (k0_pay45 (F := Ideal) y k0_pay43 k0_pay44 (ix2 p k)) 4#32) 2#32) 1#32) 0#32)
          (IntOp.cmpi .eq (bis (y (ix2 p k)) (bis (y (ix2 p k)) (bis (y (ix2 p k)) (k0_pay45 (F := Ideal) y k0_pay43 k0_pay44 (ix2 p k)) 4#32) 2#32) 1#32) 255#32)) 127#32
        (IntOp.addi (bis (y (ix2 p k)) (bis (y (ix2 p k)) (bis (y (ix2 p k)) (k0_pay45 (F := Ideal) y k0_pay43 k0_pay44 (ix2 p k)) 4#32) 2#32) 1#32) 1#32) := rfl
  rw [e', e]
  have f : ∀ n : Fin 253, Scalar.select (IntOp.ori (IntOp.cmpi .eq (BitVec.ofNat 32 n.val) 0#32) (IntOp.cmpi .eq (BitVec.ofNat 32 n.val) 255#32)) 127#32 (IntOp.addi (BitVec.ofNat 32 n.val) 1#32)
      = BitVec.ofNat 32 (if n.val = 0 then 127 else n.val + 1) := by decide +kernel
  exact f ⟨num (y (ix2 p k)), by omega⟩

theorem recip (m : Fin 254) (h : m.val ≠ 0) (W : BitVec 32)
    (hW : W = IntOp.ori (IntOp.shli ArithUnit.vector (IntOp.subi (254#32) (BitVec.ofNat 32 m.val)) 7#32)
      (IntOp.shli ArithUnit.vector (IntOp.shli ArithUnit.vector (IntOp.subi (254#32) (BitVec.ofNat 32 m.val)) 7#32) 16#32)) (p : ℕ) :
    Ideal.ofBits FTy.bf16 (BitVec.extractLsb' (16 * (p % 2)) 16 W) = two (127 - (m.val : ℤ)) := by
  have e : ∀ m : Fin 254, ∀ p : Fin 2, BitVec.extractLsb' (16 * p.val) 16 (IntOp.ori (IntOp.shli ArithUnit.vector (IntOp.subi (254#32) (BitVec.ofNat 32 m.val)) 7#32)
      (IntOp.shli ArithUnit.vector (IntOp.shli ArithUnit.vector (IntOp.subi (254#32) (BitVec.ofNat 32 m.val)) 7#32) 16#32)) = BitVec.ofNat 16 ((BitVec.ofNat 8 (254 - m.val)).toNat * 128) := by
    decide +kernel
  have hm := m.isLt
  have hp := e m ⟨p % 2, by omega⟩
  rw [hW]
  refine (congrArg (Ideal.ofBits FTy.bf16) hp).trans ?_
  have ht : (BitVec.ofNat 8 (254 - m.val)).toNat = 254 - m.val := by rw [BitVec.toNat_ofNat]; omega
  refine (bf16_pw (BitVec.ofNat 8 (254 - m.val)) (by omega) (by omega)).trans ?_
  unfold pw
  rw [ht]
  congr 1
  omega

theorem pay49_at (y : FVec Ideal S8x128 .f32) (p : Fin 8) (k : Fin 128) (r : ℕ) :
    Ideal.ofBits FTy.bf16 (BitVec.extractLsb' (16 * (r % 2)) 16 (k0_pay49 (k0_pay48 (F := Ideal) y (k0_pay45 y k0_pay43 k0_pay44) (k0_pay46 y k0_pay43 k0_pay44)) (ix2 p k)))
      = two (127 - (sb (y (ix2 p k)) : ℤ)) := by
  have h1 := sb_pos (y (ix2 p k))
  have h2 := sb_le (y (ix2 p k))
  refine recip ⟨sb (y (ix2 p k)), by omega⟩ (by show sb _ ≠ 0; omega) _ ?_ r
  rw [← pay47_at y p k]
  pointwise [k0_pay49, k0_pay48]

theorem pay50_at (a : IVec S8x128 32) (p : Fin 8) (k : Fin 128) : k0_pay50 a (ix2 p k) = a (ix2 p k) := by
  pointwise [k0_pay50]

/-- A value brought to its block's scale, within the bounds of the codes. -/
def clip (v m : EReal) : EReal := min (Ideal.ofBits FTy.bf16 17376#16) (max (Ideal.ofBits FTy.bf16 50144#16) (v * m))

theorem pay51_at (v : FVec Ideal S32x128 .bf16) (a : IVec S1x128 32) (p : Fin 32) (k : Fin 128) (m : EReal)
    (h : Ideal.ofBits FTy.bf16 (BitVec.extractLsb' (16 * (p.val % 2)) 16 (a (ix2 0 k))) = m) :
    k0_pay51 (F := Ideal) a v (ix2 p k) = clip (v (ix2 p k)) m := by
  pointwise [k0_pay51, bitcast_16_32, bitcast_32_16]
  rw [← h]
  rfl

/-- The largest of a lane's magnitudes over 32 tokens. -/
def amax (f : Fin 32 → EReal) : EReal := Finset.univ.sup fun j => FloatOps.absf (F := Ideal) (φ := .f32) (f j)

theorem pay42_at (a0 a1 a2 a3 a4 a5 a6 a7 : Vec Ideal S8x2x128 .bf16) (p : Fin 8) (k : Fin 128) (f : Fin 32 → EReal)
    (a : Fin 8 → Vec Ideal S8x2x128 .bf16) (h0 : a0 = a 0) (h1 : a1 = a 1) (h2 : a2 = a 2) (h3 : a3 = a 3) (h4 : a4 = a 4) (h5 : a5 = a 5) (h6 : a6 = a 6) (h7 : a7 = a 7)
    (h : ∀ (i : Fin 8) (h : Fin 2), a i (ix3 p h k) = max (FloatOps.absf (F := Ideal) (φ := .f32) (f ⟨2 * i.val + h.val, by omega⟩)) (FloatOps.absf (F := Ideal) (φ := .f32) (f ⟨16 + (2 * i.val + h.val), by omega⟩))) :
    k0_pay42 (F := Ideal) (k0_pay40 a0) (k0_pay41 a1) a2 a3 a4 a5 a6 a7 (ix2 p k) = amax f * Ideal.ofBits FTy.f32 991054117#32 := by
  pointwise [k0_pay40, k0_pay41, k0_pay42, bitcast_16_32, bitcast_32_16]
  have o1 : (2 * p.val + 1) % 2 ≠ 0 := by omega
  have o2 : 2 * p.val % 2 = 0 := by omega
  have o3 : (2 * p.val + 1) / 2 = p.val := by omega
  have o4 : 2 * p.val / 2 = p.val := by omega
  simp only [if_neg o1, if_pos o2, o3, o4, Fin.eta]
  subst h0 h1 h2 h3 h4 h5 h6 h7
  congr 1
  refine eq_of_forall_ge_iff fun c => ?_
  unfold amax
  rw [Finset.sup_le_iff]
  simp only [max_le_iff]
  constructor
  · rintro ⟨⟨⟨⟨g01, g11⟩, g21, g31⟩, ⟨g41, g51⟩, g61, g71⟩, ⟨⟨⟨g00, g10⟩, g20, g30⟩, ⟨g40, g50⟩, g60, g70⟩⟩ j _
    have all : ∀ (i : Fin 8) (b : Fin 2), a i (ix3 p b k) ≤ c := by
      intro i b
      match i, b with
      | ⟨0, _⟩, ⟨0, _⟩ => exact g00
      | ⟨0, _⟩, ⟨1, _⟩ => exact g01
      | ⟨1, _⟩, ⟨0, _⟩ => exact g10
      | ⟨1, _⟩, ⟨1, _⟩ => exact g11
      | ⟨2, _⟩, ⟨0, _⟩ => exact g20
      | ⟨2, _⟩, ⟨1, _⟩ => exact g21
      | ⟨3, _⟩, ⟨0, _⟩ => exact g30
      | ⟨3, _⟩, ⟨1, _⟩ => exact g31
      | ⟨4, _⟩, ⟨0, _⟩ => exact g40
      | ⟨4, _⟩, ⟨1, _⟩ => exact g41
      | ⟨5, _⟩, ⟨0, _⟩ => exact g50
      | ⟨5, _⟩, ⟨1, _⟩ => exact g51
      | ⟨6, _⟩, ⟨0, _⟩ => exact g60
      | ⟨6, _⟩, ⟨1, _⟩ => exact g61
      | ⟨7, _⟩, ⟨0, _⟩ => exact g70
      | ⟨7, _⟩, ⟨1, _⟩ => exact g71
    have hj := j.isLt
    have := all ⟨j.val % 16 / 2, by omega⟩ ⟨j.val % 2, by omega⟩
    rw [h, max_le_iff] at this
    by_cases hj' : j.val < 16
    · rw [show j = ⟨2 * (j.val % 16 / 2) + j.val % 2, by omega⟩ from Fin.ext (by show j.val = 2 * (j.val % 16 / 2) + j.val % 2; omega)]
      exact this.1
    · rw [show j = ⟨16 + (2 * (j.val % 16 / 2) + j.val % 2), by omega⟩ from Fin.ext (by show j.val = 16 + (2 * (j.val % 16 / 2) + j.val % 2); omega)]
      exact this.2
  · intro hc
    have all : ∀ (i : Fin 8) (b : Fin 2), a i (ix3 p b k) ≤ c := by
      intro i b
      rw [h, max_le_iff]
      exact ⟨hc _ (Finset.mem_univ _), hc _ (Finset.mem_univ _)⟩
    refine ⟨⟨⟨⟨?_, ?_⟩, ?_, ?_⟩, ⟨?_, ?_⟩, ?_, ?_⟩, ⟨⟨⟨?_, ?_⟩, ?_, ?_⟩, ⟨?_, ?_⟩, ?_, ?_⟩⟩ <;> exact all _ _

end Cert.KernelIdeal.Hand

end
-- ==== Proof.Hand.IdealCells.lean ====
/-
  `KernelIdeal`'s groups at the ideal values: decoded blocks, scales and quantised blocks.
-/
module

public import proofs.«01_k».proof.Proof.Hand.IdealSteps
public import proofs.«01_k».proof.Proof.Hand.IdealWord
public import proofs.«01_k».proof.Proof.Hand.IdealScale

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

/-- The factor of token `τ`'s block of lane `k`, the code there and their product; nothing outside. -/
def sp (s : S1x6144x128.Idx → BitVec 8) (u : Fin 8) (τ k : ℕ) : EReal :=
  if h : τ < 6144 ∧ k < 512 then pw (s (ix3 0 ⟨τ, h.1⟩ ⟨16 * u.val + k / 32, by omega⟩)) else 0
def xp (x : S1x6144x512.Idx → EReal) (τ k : ℕ) : EReal := if h : τ < 6144 ∧ k < 512 then x (ix3 0 ⟨τ, h.1⟩ ⟨k, h.2⟩) else 0
def val (x : S1x6144x512.Idx → EReal) (s : S1x6144x128.Idx → BitVec 8) (u : Fin 8) (τ k : ℕ) : EReal := xp x τ k * sp s u τ k

/-- Magnitude, bound, scale and quantised value. -/
def mag (v : EReal) : EReal := FloatOps.absf (F := Ideal) (φ := .f32) v
def bnd (f : ℕ → ℕ → EReal) (ρ k : ℕ) : EReal := amax (fun j => f (32 * ρ + j.val) k) * Ideal.ofBits FTy.f32 991054117#32
def sK (f : ℕ → ℕ → EReal) (ρ k : ℕ) : ℕ := sb (bnd f ρ k)
def code (f : ℕ → ℕ → EReal) (τ k : ℕ) : EReal := clip (f τ k) (two (127 - (sK f (τ / 32) k : ℤ)))

variable {x : S1x6144x512.Idx → EReal} {s : S1x6144x128.Idx → BitVec 8} {u : Fin 8} {f : ℕ → ℕ → EReal}

theorem pay10_val (X : Vec Ideal S1x32x128 .fp8e4m3) (W : Vec Ideal S16x128 .i32) (T K : ℕ)
    (hX : ∀ (r : Fin 32) (q : Fin 128), X (ix3 0 r q) = xp x (T + r.val) (K + q.val))
    (hW : ∀ (p : Fin 16) (q : Fin 128) (b : Fin 2), Ideal.ofBits FTy.bf16 (BitVec.extractLsb' (16 * b.val) 16 (W (ix2 p q))) = sp s u (T + (2 * p.val + b.val)) (K + q.val))
    (r : Fin 32) (q : Fin 128) : k0_pay10 (F := Ideal) X W (ix2 r q) = val x s u (T + r.val) (K + q.val) := by
  pointwise [k0_pay10, bitcast_16_32, bitcast_32_16]
  refine congr_arg₂ (· * ·) (hX r q) ?_
  have := hW ⟨r.val / 2, by omega⟩ q ⟨r.val % 2, by omega⟩
  rw [show T + (2 * (⟨r.val / 2, by omega⟩ : Fin 16).val + (⟨r.val % 2, by omega⟩ : Fin 2).val) = T + r.val by show T + (2 * (r.val / 2) + r.val % 2) = _; omega] at this
  refine Eq.trans ?_ this
  refine congrArg (fun z => Ideal.ofBits FTy.bf16 (BitVec.extractLsb' (16 * (r.val % 2)) 16 (W z))) ?_
  funext d; apply Fin.ext
  fin_cases d <;> rfl

theorem pay11_val (X : Vec Ideal S1x32x128 .fp8e4m3) (W : Vec Ideal S16x128 .i32) (r : Fin 32) (q : Fin 128) :
    k0_pay11 (F := Ideal) X W (ix2 r q) = k0_pay10 (F := Ideal) X W (ix2 r q) := by
  pointwise [k0_pay11]

theorem pay12_val (X : Vec Ideal S1x32x128 .fp8e4m3) (W : Vec Ideal S16x128 .i32) (i : Fin 8) (h : Fin 2) (q : Fin 128) :
    k0_pay12 (F := Ideal) X W (ix3 i h q) = max (mag (k0_pay10 (F := Ideal) X W (ix2 (⟨2 * i.val + h.val, by omega⟩ : Fin 32) q))) (mag (k0_pay10 (F := Ideal) X W (ix2 (⟨16 + (2 * i.val + h.val), by omega⟩ : Fin 32) q))) := by
  pointwise [k0_pay12]
  match h with
  | ⟨0, _⟩ => rfl
  | ⟨1, _⟩ => rfl

/-- The packed words of trip `t`. -/
def WordOk (s : S1x6144x128.Idx → BitVec 8) (u : Fin 8) (t : ℕ) (w : S256x512.Idx → BitVec 32) : Prop :=
  ∀ (p : Fin 256) (k : Fin 512) (b : Fin 2), Ideal.ofBits FTy.bf16 (BitVec.extractLsb' (16 * b.val) 16 (w (ix2 p k))) = sp s u (512 * t + (2 * p.val + b.val)) k.val

/-- The first `n` decoded blocks of a group, and the magnitudes kept of them. -/
def Vd (f : ℕ → ℕ → EReal) (t : ℕ) (l : Fin 4) (g : Fin 2) (n : ℕ) (v : S512x512.Idx → EReal) : Prop :=
  ∀ (j : Fin 8) (r : Fin 32) (q : Fin 128), j.val < n → ∀ (a b : Fin 512), a.val = (g.val * 8 + j.val) * 32 + r.val → b.val = l.val * 128 + q.val →
    v (ix2 a b) = f (512 * t + (g.val * 8 + j.val) * 32 + r.val) (l.val * 128 + q.val)
def Ld (f : ℕ → ℕ → EReal) (t : ℕ) (l : Fin 4) (g : Fin 2) (n : ℕ) (sl : S640x2x128.Idx → EReal) : Prop :=
  ∀ (j : Fin 8) (i : Fin 8) (h : Fin 2) (q : Fin 128), j.val < n → ∀ (a : Fin 640), a.val = (l.val * 2 + g.val) * 80 + j.val + 9 * i.val →
    sl (ix3 a h q) = max (mag (f (512 * t + (g.val * 8 + j.val) * 32 + (2 * i.val + h.val)) (l.val * 128 + q.val)))
      (mag (f (512 * t + (g.val * 8 + j.val) * 32 + (16 + (2 * i.val + h.val))) (l.val * 128 + q.val)))

theorem vd_next (t : ℕ) (l : Fin 4) (g : Fin 2) (j : Fin 8) (v v' : S512x512.Idx → EReal) (P : S32x128.Idx → EReal)
    (hP : ∀ (r : Fin 32) (q : Fin 128), P (ix2 r q) = f (512 * t + (g.val * 8 + j.val) * 32 + r.val) (l.val * 128 + q.val))
    (hv : Vd f t l g j.val v)
    (h : v' = (Rect.unit (s := S512x512) ![(g.val * 8 + j.val) * 32, l.val * 128] S32x128.size (tile_inb l g j)).overlay v P) :
    Vd f t l g (j.val + 1) v' := by
  intro j' r q hj a b ha hb
  by_cases e : j' = j
  · subst e
    exact (congrFun h _).trans ((overlay2_in ![(g.val * 8 + j'.val) * 32, l.val * 128] _ _ _ a b r q ha hb).trans (hP r q))
  · have hn : j'.val ≠ j.val := fun h => e (Fin.ext h)
    have hr := r.isLt
    refine (congrFun h _).trans ((overlay2_out ![(g.val * 8 + j.val) * 32, l.val * 128] _ _ _ a b ?_).trans (hv j' r q (by omega) a b ha hb))
    rcases lt_or_gt_of_ne hn with h' | h'
    · left; show a.val < (g.val * 8 + j.val) * 32; omega
    · right; left; show (g.val * 8 + j.val) * 32 + 32 ≤ a.val; omega

theorem ld_next (t : ℕ) (l : Fin 4) (g : Fin 2) (j : Fin 8) (v v' : S640x2x128.Idx → EReal) (P : S8x2x128.Idx → EReal)
    (hP : ∀ (i : Fin 8) (h : Fin 2) (q : Fin 128), P (ix3 i h q) = max (mag (f (512 * t + (g.val * 8 + j.val) * 32 + (2 * i.val + h.val)) (l.val * 128 + q.val)))
      (mag (f (512 * t + (g.val * 8 + j.val) * 32 + (16 + (2 * i.val + h.val))) (l.val * 128 + q.val))))
    (hv : Ld f t l g j.val v)
    (h : v' = (⟨(⟨![(l.val * 2 + g.val) * 80 + j.val, 0, 0], S8x2x128.size, ![9, 1, 1], slab_inb l g j⟩ : LoadRect S640x2x128), spos_9_1_1⟩ : Rect S640x2x128).overlay v P) :
    Ld f t l g (j.val + 1) v' := by
  intro j' i b q hj a ha
  by_cases e : j' = j
  · subst e
    refine (congrFun h _).trans ((overlay_in (⟨(⟨![(l.val * 2 + g.val) * 80 + j'.val, 0, 0], S8x2x128.size, ![9, 1, 1], slab_inb l g j'⟩ : LoadRect S640x2x128), spos_9_1_1⟩ : Rect S640x2x128) _ _ _ (ix3 i b q) ?_).trans (hP i b q))
    intro d
    fin_cases d
    · exact ha
    · show b.val = 0 + 1 * b.val
      omega
    · show q.val = 0 + 1 * q.val
      omega
  · have hn : j'.val ≠ j.val := fun h => e (Fin.ext h)
    refine (congrFun h _).trans ((overlay_out (⟨(⟨![(l.val * 2 + g.val) * 80 + j.val, 0, 0], S8x2x128.size, ![9, 1, 1], slab_inb l g j⟩ : LoadRect S640x2x128), spos_9_1_1⟩ : Rect S640x2x128) _ _ _ ⟨0, ?_⟩).trans (hv j' i b q (by omega) a ha))
    intro n hn'
    show a.val ≠ (l.val * 2 + g.val) * 80 + j.val + 9 * n
    have := j.isLt
    have := j'.isLt
    omega

/-- The scales up to the `m`-th of trip `t`'s cells, the reciprocals of a group and the quantised cells up to the `m`-th. -/
def Sd (f : ℕ → ℕ → EReal) (t m : ℕ) (sc : S192x512.Idx → BitVec 32) : Prop :=
  ∀ (ρ : Fin 192) (k : Fin 512), (ρ.val < 16 * t ∨ (ρ.val < 16 * t + 16 ∧ 16 * (k.val / 128) + (ρ.val - 16 * t) < m)) →
    sc (ix2 ρ k) = BitVec.ofNat 32 (sK f ρ.val k.val)
def Iv (f : ℕ → ℕ → EReal) (t : ℕ) (l : Fin 4) (g : Fin 2) (iv : S640x128.Idx → BitVec 32) : Prop :=
  ∀ (p : Fin 8) (q : Fin 128) (a : Fin 640), a.val = (l.val * 2 + g.val) * 80 + p.val → ∀ r : ℕ,
    Ideal.ofBits FTy.bf16 (BitVec.extractLsb' (16 * (r % 2)) 16 (iv (ix2 a q))) = two (127 - (sK f (16 * t + 8 * g.val + p.val) (l.val * 128 + q.val) : ℤ))
def Qd (f : ℕ → ℕ → EReal) (t m : ℕ) (q : S512x512.Idx → EReal) : Prop :=
  ∀ (τ k : Fin 512), 16 * (k.val / 128) + τ.val / 32 < m → q (ix2 τ k) = code f (512 * t + τ.val) k.val

theorem sd_next (t : Fin k0_t2_loop.trips) (l : Fin 4) (g : Fin 2) (v v' : S192x512.Idx → BitVec 32) (P : S8x128.Idx → BitVec 32)
    (hP : ∀ (p : Fin 8) (q : Fin 128), P (ix2 p q) = BitVec.ofNat 32 (sK f (16 * t.val + 8 * g.val + p.val) (l.val * 128 + q.val)))
    (hv : Sd f t.val (16 * l.val + 8 * g.val) v)
    (h : v' = (Rect.unit (s := S192x512) (scOff t l g) S8x128.size (scOff_inb t l g)).overlay v P) :
    Sd f t.val (16 * l.val + 8 * g.val + 8) v' := by
  intro ρ k hc
  have o0 : scOff t l g 0 = 16 * t.val + 8 * g.val := by rw [scOff_eq]; rfl
  have o1 : scOff t l g 1 = 128 * l.val := by rw [scOff_eq]; rfl
  have hk := k.isLt
  have hg := g.isLt
  by_cases e : (16 * t.val + 8 * g.val ≤ ρ.val ∧ ρ.val < 16 * t.val + 8 * g.val + 8) ∧ k.val / 128 = l.val
  · refine (congrFun h _).trans ((overlay2_in (scOff t l g) _ _ _ ρ k (⟨ρ.val - (16 * t.val + 8 * g.val), by omega⟩ : Fin 8) (⟨k.val % 128, by omega⟩ : Fin 128) ?_ ?_).trans ((hP _ _).trans ?_))
    · rw [o0]; show ρ.val = 16 * t.val + 8 * g.val + (ρ.val - (16 * t.val + 8 * g.val)); omega
    · rw [o1]; show k.val = 128 * l.val + k.val % 128; omega
    · rw [show 16 * t.val + 8 * g.val + (ρ.val - (16 * t.val + 8 * g.val)) = ρ.val by omega, show l.val * 128 + k.val % 128 = k.val by omega]
  · refine (congrFun h _).trans ((overlay2_out (scOff t l g) _ _ _ ρ k ?_).trans (hv ρ k (by omega)))
    rw [o0, o1]
    omega

theorem iv_next (t : Fin k0_t2_loop.trips) (l : Fin 4) (g : Fin 2) (v v' : S640x128.Idx → BitVec 32) (P : S8x128.Idx → BitVec 32)
    (hP : ∀ (p : Fin 8) (q : Fin 128) (r : ℕ), Ideal.ofBits FTy.bf16 (BitVec.extractLsb' (16 * (r % 2)) 16 (P (ix2 p q))) = two (127 - (sK f (16 * t.val + 8 * g.val + p.val) (l.val * 128 + q.val) : ℤ)))
    (h : v' = (Rect.unit (s := S640x128) ![(l.val * 2 + g.val) * 80, 0] S8x128.size (inv_inb l g)).overlay v P) :
    Iv f t.val l g v' := by
  intro p q a ha r
  have : v' (ix2 a q) = P (ix2 p q) := (congrFun h _).trans (overlay2_in ![(l.val * 2 + g.val) * 80, 0] _ _ _ a q p q ha (by simp))
  rw [this]
  exact hP p q r

theorem bnd_of (t : Fin k0_t2_loop.trips) (l : Fin 4) (g : Fin 2) (a0 a1 a2 a3 a4 a5 a6 a7 : Vec Ideal S8x2x128 .bf16) (sl : S640x2x128.Idx → EReal) (hL : Ld f t.val l g 8 sl)
    (a : Fin 8 → Vec Ideal S8x2x128 .bf16) (h0 : a0 = a 0) (h1 : a1 = a 1) (h2 : a2 = a 2) (h3 : a3 = a 3) (h4 : a4 = a 4) (h5 : a5 = a 5) (h6 : a6 = a 6) (h7 : a7 = a 7)
    (ha : ∀ (i p : Fin 8) (h : Fin 2) (q : Fin 128) (b : Fin 640), b.val = (l.val * 2 + g.val) * 80 + p.val + 9 * i.val → a i (ix3 p h q) = sl (ix3 b h q)) (p : Fin 8) (q : Fin 128) :
    k0_pay42 (F := Ideal) (k0_pay40 a0) (k0_pay41 a1) a2 a3 a4 a5 a6 a7 (ix2 p q) = bnd f (16 * t.val + 8 * g.val + p.val) (l.val * 128 + q.val) := by
  refine pay42_at a0 a1 a2 a3 a4 a5 a6 a7 p q (fun j => f (32 * (16 * t.val + 8 * g.val + p.val) + j.val) (l.val * 128 + q.val)) a h0 h1 h2 h3 h4 h5 h6 h7 ?_
  intro i h
  have hl := l.isLt
  have hg := g.isLt
  refine (ha i p h q ⟨(l.val * 2 + g.val) * 80 + p.val + 9 * i.val, by omega⟩ rfl).trans ((hL p i h q p.isLt _ rfl).trans ?_)
  rw [show 512 * t.val + (g.val * 8 + p.val) * 32 = 32 * (16 * t.val + 8 * g.val + p.val) by ring]
  rfl

theorem qd_next (t : ℕ) (l : Fin 4) (g : Fin 2) (j : Fin 8) (v v' : S512x512.Idx → EReal) (P : S32x128.Idx → EReal)
    (hP : ∀ (r : Fin 32) (q : Fin 128), P (ix2 r q) = code f (512 * t + ((g.val * 8 + j.val) * 32 + r.val)) (l.val * 128 + q.val))
    (hv : Qd f t (16 * l.val + 8 * g.val + j.val) v)
    (h : v' = (Rect.unit (s := S512x512) ![(g.val * 8 + j.val) * 32, l.val * 128] S32x128.size (tile_inb l g j)).overlay v P) :
    Qd f t (16 * l.val + 8 * g.val + (j.val + 1)) v' := by
  intro τ k hc
  have hk := k.isLt
  have hτ := τ.isLt
  by_cases e : τ.val / 32 = g.val * 8 + j.val ∧ k.val / 128 = l.val
  · refine (congrFun h _).trans ((overlay2_in ![(g.val * 8 + j.val) * 32, l.val * 128] _ _ _ τ k (⟨τ.val % 32, by omega⟩ : Fin 32) (⟨k.val % 128, by omega⟩ : Fin 128) ?_ ?_).trans ((hP _ _).trans ?_))
    · show τ.val = (g.val * 8 + j.val) * 32 + τ.val % 32; omega
    · show k.val = l.val * 128 + k.val % 128; omega
    · rw [show (g.val * 8 + j.val) * 32 + τ.val % 32 = τ.val by omega, show l.val * 128 + k.val % 128 = k.val by omega]
  · refine (congrFun h _).trans ((overlay2_out ![(g.val * 8 + j.val) * 32, l.val * 128] _ _ _ τ k ?_).trans (hv τ k (by omega)))
    show τ.val < (g.val * 8 + j.val) * 32 ∨ (g.val * 8 + j.val) * 32 + 32 ≤ τ.val ∨ k.val < l.val * 128 ∨ l.val * 128 + 128 ≤ k.val
    omega

theorem quant_val (t : ℕ) (l : Fin 4) (g : Fin 2) (j : Fin 8) (m : Vec Ideal S1x128 .i32) (b : Vec Ideal S32x128 .bf16) (v : S512x512.Idx → EReal) (iv : S640x128.Idx → BitVec 32)
    (hV : Vd f t l g 8 v) (hI : Iv f t l g iv)
    (hm : ∀ (q : Fin 128) (a : Fin 640), a.val = (l.val * 2 + g.val) * 80 + j.val → m (ix2 0 q) = iv (ix2 a q))
    (hb : ∀ (r : Fin 32) (q : Fin 128) (a c : Fin 512), a.val = (g.val * 8 + j.val) * 32 + r.val → c.val = l.val * 128 + q.val → b (ix2 r q) = v (ix2 a c))
    (r : Fin 32) (q : Fin 128) : k0_pay51 (F := Ideal) m b (ix2 r q) = code f (512 * t + ((g.val * 8 + j.val) * 32 + r.val)) (l.val * 128 + q.val) := by
  have hl := l.isLt
  have hg := g.isLt
  rw [pay51_at b m r q _ ((congrArg (fun z => Ideal.ofBits FTy.bf16 (BitVec.extractLsb' (16 * (r.val % 2)) 16 z)) (hm q ⟨(l.val * 2 + g.val) * 80 + j.val, by omega⟩ rfl)).trans (hI j q _ rfl r.val))]
  unfold code
  refine congr_arg₂ clip ?_ ?_
  · refine (hb r q ⟨(g.val * 8 + j.val) * 32 + r.val, by omega⟩ ⟨l.val * 128 + q.val, by omega⟩ rfl rfl).trans ((hV j r q j.isLt _ _ rfl rfl).trans ?_)
    rw [add_assoc]
  · rw [show (512 * t + ((g.val * 8 + j.val) * 32 + r.val)) / 32 = 16 * t + 8 * g.val + j.val by omega]

end Cert.KernelIdeal.Hand

end
-- ==== Proof.Hand.IdealGroup.lean ====
/-
  `KernelIdeal`'s trip at the ideal values: its groups' steps over the buffers.
-/
module

public import proofs.«01_k».proof.Proof.Hand.IdealSteps
public import proofs.«01_k».proof.Proof.Hand.IdealCells

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

variable {x : S1x6144x512.Idx → EReal} {s : S1x6144x128.Idx → BitVec 8} {u : Fin 8} {S₀ : St Ideal}

/-- The buffers a trip's groups leave alone are as in `S₀`. -/
def Base (S₀ S : St Ideal) : Prop := Keep S₀ S ∧ S.codes = S₀.codes ∧ S.word = S₀.word

/-- Before a group, at its decoding of block `n` and at its quantising of block `n`. -/
def Grp (f : ℕ → ℕ → EReal) (S₀ : St Ideal) (t m : ℕ) (S : St Ideal) : Prop := Base S₀ S ∧ Qd f t m S.q ∧ Sd f t m S.sc
def Dec (f : ℕ → ℕ → EReal) (S₀ : St Ideal) (t : ℕ) (l : Fin 4) (g : Fin 2) (n : ℕ) (S : St Ideal) : Prop :=
  Base S₀ S ∧ Qd f t (16 * l.val + 8 * g.val) S.q ∧ Sd f t (16 * l.val + 8 * g.val) S.sc ∧ Vd f t l g n S.v ∧ Ld f t l g n S.slab
def Qnt (f : ℕ → ℕ → EReal) (S₀ : St Ideal) (t : ℕ) (l : Fin 4) (g : Fin 2) (n : ℕ) (S : St Ideal) : Prop :=
  Base S₀ S ∧ Qd f t (16 * l.val + 8 * g.val + n) S.q ∧ Sd f t (16 * l.val + 8 * g.val + 8) S.sc ∧ Vd f t l g 8 S.v ∧ Iv f t l g S.inv

section Rules

variable {k : Prog (TpuEff nD τ sig (Elt Ideal) Λ₀ .tc) Unit} {Q : Unit → St Ideal → Prop}

theorem dec_x (t : Fin k0_t2_loop.trips) (l : Fin 4) (g : Fin 2) (j : Fin 8) (r : Fin 32) (q : Fin 128) :
    x ((Rect.unit (s := S1x6144x512) (xOff t l (blk g j)) S1x32x128.size (xOff_inb t l (blk g j))).toLoadRect.idx (ix3 0 r q))
      = xp x (512 * t.val + (g.val * 8 + j.val) * 32 + r.val) (l.val * 128 + q.val) := by
  have ht : t.val < 12 := t.isLt
  have hg := g.isLt
  have hl' := l.isLt
  have hj := j.isLt
  have hr := r.isLt
  have hq := q.isLt
  have o0 : xOff t l (blk g j) 0 = 0 := by rw [xOff_eq]; rfl
  have o1 : xOff t l (blk g j) 1 = 512 * t.val + 32 * (g.val * 8 + j.val) := by rw [xOff_eq]; rfl
  have o2 : xOff t l (blk g j) 2 = 128 * l.val := by rw [xOff_eq]; rfl
  unfold xp
  have hc : 512 * t.val + (g.val * 8 + j.val) * 32 + r.val < 6144 ∧ l.val * 128 + q.val < 512 := by omega
  rw [dif_pos hc]
  have e := idx3 (xOff t l (blk g j)) (xOff_inb t l (blk g j)) (0 : Fin 1) r q (0 : Fin 1) (⟨512 * t.val + (g.val * 8 + j.val) * 32 + r.val, hc.1⟩ : Fin 6144) (⟨l.val * 128 + q.val, hc.2⟩ : Fin 512)
    (by rw [o0]; rfl) (by rw [o1]; show 512 * t.val + (g.val * 8 + j.val) * 32 + r.val = _; omega) (by rw [o2]; show l.val * 128 + q.val = _; omega)
  exact congrArg x e

theorem dec_w (t : Fin k0_t2_loop.trips) (l : Fin 4) (g : Fin 2) (j : Fin 8) (ww : S256x512.Idx → BitVec 32) (hw : WordOk s u t.val ww) (p : Fin 16) (q : Fin 128) (b : Fin 2) :
    Ideal.ofBits FTy.bf16 (BitVec.extractLsb' (16 * b.val) 16 (ww ((Rect.unit (s := S256x512) ![(g.val * 8 + j.val) * 16, l.val * 128] S16x128.size (word_inb l g j)).toLoadRect.idx (ix2 p q))))
      = sp s u (512 * t.val + (g.val * 8 + j.val) * 32 + (2 * p.val + b.val)) (l.val * 128 + q.val) := by
  have hg := g.isLt
  have hl' := l.isLt
  have hj := j.isLt
  have hp := p.isLt
  have hq := q.isLt
  have e := idx2 ![(g.val * 8 + j.val) * 16, l.val * 128] (word_inb l g j) p q (⟨(g.val * 8 + j.val) * 16 + p.val, by omega⟩ : Fin 256) (⟨l.val * 128 + q.val, by omega⟩ : Fin 512) rfl rfl
  refine (congrArg (fun z => Ideal.ofBits FTy.bf16 (BitVec.extractLsb' (16 * b.val) 16 (ww z))) e).trans ((hw _ _ b).trans ?_)
  rw [show 512 * t.val + (g.val * 8 + j.val) * 32 + (2 * p.val + b.val) = 512 * t.val + (2 * ((g.val * 8 + j.val) * 16 + p.val) + b.val) by omega]

/-- What block `8 g + j` decodes to. -/
theorem dec_vals (t : Fin k0_t2_loop.trips) (l : Fin 4) (g : Fin 2) (j : Fin 8) (xx : S1x6144x512.Idx → EReal) (ww : S256x512.Idx → BitVec 32) (hx : xx = x) (hw : WordOk s u t.val ww) (r : Fin 32) (q : Fin 128) :
    k0_pay10 (F := Ideal) (fun y => xx ((Rect.unit (s := S1x6144x512) (xOff t l (blk g j)) S1x32x128.size (xOff_inb t l (blk g j))).toLoadRect.idx y))
      (fun y => ww ((Rect.unit (s := S256x512) ![(g.val * 8 + j.val) * 16, l.val * 128] S16x128.size (word_inb l g j)).toLoadRect.idx y)) (ix2 r q)
      = val x s u (512 * t.val + (g.val * 8 + j.val) * 32 + r.val) (l.val * 128 + q.val) := by
  subst hx
  exact pay10_val (x := xx) (s := s) (u := u) (fun y => xx ((Rect.unit (s := S1x6144x512) (xOff t l (blk g j)) S1x32x128.size (xOff_inb t l (blk g j))).toLoadRect.idx y))
    (fun y => ww ((Rect.unit (s := S256x512) ![(g.val * 8 + j.val) * 16, l.val * 128] S16x128.size (word_inb l g j)).toLoadRect.idx y)) (512 * t.val + (g.val * 8 + j.val) * 32) (l.val * 128)
    (fun r q => dec_x t l g j r q) (fun p q b => dec_w t l g j ww hw p q b) r q

theorem dec_rule (t : Fin k0_t2_loop.trips) (l : Fin 4) (g : Fin 2) (j : Fin 8) (h₀ : S₀.x = x) (hw : WordOk s u t.val S₀.word)
    (hk : ∀ S, Dec (val x s u) S₀ t.val l g (j.val + 1) S → Go arg3 arg4 arg5 arg6 arg7 arg8 arg9 arg10 arg11 arg12 arg13 arg14 arg15 arg16 c S k Q) (S : St Ideal) (hS : Dec (val x s u) S₀ t.val l g j.val S) :
    Go arg3 arg4 arg5 arg6 arg7 arg8 arg9 arg10 arg11 arg12 arg13 arg14 arg15 arg16 c S (decode arg3 arg10 arg11 harg11 arg12 harg12 t l g j k) Q := by
  unfold decode Go
  refine Runs.load_op ?_
  refine Runs.load_op ?_
  refine Runs.load_op ?_
  refine Runs.store_op ?_
  refine Runs.load_op ?_
  refine Runs.store_op ?_
  obtain ⟨⟨hK, hc, hwd⟩, hq, hs, hv, hl⟩ := hS
  have h10 := dec_vals (s := s) (u := u) t l g j S.x S.word (hK.1.trans h₀) (by rw [hwd]; exact hw)
  refine hk _ ⟨⟨⟨hK.1, hK.2.1, hK.2.2.1, hK.2.2.2.1, hK.2.2.2.2.1, hK.2.2.2.2.2⟩, hc, hwd⟩, hq, hs, ?_, ?_⟩
  · dsimp only [Cell.get, Cell.put, cell_x, cell_s, cell_codes, cell_scale, cell_dbias, cell_lhs, cell_mt, cell_word, cell_v, cell_slab, cell_inv, cell_q, cell_sc, cell_acc]
    refine vd_next t.val l g j _ _ _ (fun r q => ?_) hv rfl
    rw [pay11_val]
    exact h10 r q
  · dsimp only [Cell.get, Cell.put, cell_x, cell_s, cell_codes, cell_scale, cell_dbias, cell_lhs, cell_mt, cell_word, cell_v, cell_slab, cell_inv, cell_q, cell_sc, cell_acc]
    refine ld_next t.val l g j _ _ _ (fun i h q => ?_) hl rfl
    rw [pay12_val]
    exact congr_arg₂ max (congrArg mag (h10 _ q)) (congrArg mag (h10 _ q))

theorem sc_rule (t : Fin k0_t2_loop.trips) (l : Fin 4) (g : Fin 2) {f : ℕ → ℕ → EReal}
    (hk : ∀ S, Qnt f S₀ t.val l g 0 S → Go arg3 arg4 arg5 arg6 arg7 arg8 arg9 arg10 arg11 arg12 arg13 arg14 arg15 arg16 c S k Q) (S : St Ideal) (hS : Dec f S₀ t.val l g 8 S) :
    Go arg3 arg4 arg5 arg6 arg7 arg8 arg9 arg10 arg11 arg12 arg13 arg14 arg15 arg16 c S (scales arg12 arg13 arg15 t l g k) Q := by
  unfold scales Go
  refine Runs.load_op ?_
  refine Runs.load_op ?_
  refine Runs.load_op ?_
  refine Runs.load_op ?_
  refine Runs.load_op ?_
  refine Runs.load_op ?_
  refine Runs.load_op ?_
  refine Runs.load_op ?_
  refine Runs.load_op ?_
  refine Runs.store_op ?_
  refine Runs.load_op ?_
  refine Runs.store_op ?_
  obtain ⟨⟨hK, hc, hwd⟩, hq, hs, hv, hl⟩ := hS
  have ha : ∀ (i p : Fin 8) (h : Fin 2) (q : Fin 128) (b : Fin 640), b.val = (l.val * 2 + g.val) * 80 + p.val + 9 * i.val →
      (fun y : S8x2x128.Idx => S.slab ((Rect.unit (s := S640x2x128) ![(l.val * 2 + g.val) * 80 + 9 * i.val, 0, 0] S8x2x128.size (slabld_inb l g (9 * i.val) (by omega))).toLoadRect.idx y)) (ix3 p h q) = S.slab (ix3 b h q) := by
    intro i p h q b hb
    refine congrArg S.slab (idx3 ![(l.val * 2 + g.val) * 80 + 9 * i.val, 0, 0] _ p h q b h q ?_ ?_ ?_)
    · show b.val = (l.val * 2 + g.val) * 80 + 9 * i.val + p.val; omega
    · show h.val = 0 + h.val; omega
    · show q.val = 0 + q.val; omega
  have hy := fun a0 a1 a2 a3 a4 a5 a6 a7 h0 h1 h2 h3 h4 h5 h6 h7 => bnd_of t l g a0 a1 a2 a3 a4 a5 a6 a7 S.slab hl (fun i y => S.slab ((Rect.unit (s := S640x2x128) ![(l.val * 2 + g.val) * 80 + 9 * i.val, 0, 0] S8x2x128.size (slabld_inb l g (9 * i.val) (by omega))).toLoadRect.idx y)) h0 h1 h2 h3 h4 h5 h6 h7 ha
  have hy' := hy _ _ _ _ _ _ _ _ rfl rfl rfl rfl rfl rfl rfl rfl
  refine hk _ ⟨⟨⟨hK.1, hK.2.1, hK.2.2.1, hK.2.2.2.1, hK.2.2.2.2.1, hK.2.2.2.2.2⟩, hc, hwd⟩, hq, ?_, hv, ?_⟩
  · dsimp only [Cell.get, Cell.put, cell_x, cell_s, cell_codes, cell_scale, cell_dbias, cell_lhs, cell_mt, cell_word, cell_v, cell_slab, cell_inv, cell_q, cell_sc, cell_acc]
    refine sd_next t l g _ _ _ (fun p q => ?_) hs rfl
    refine (pay50_at _ p q).trans ((pay47_at _ p q).trans ?_)
    exact congrArg (fun z => BitVec.ofNat 32 (sb z)) (hy' p q)
  · dsimp only [Cell.get, Cell.put, cell_x, cell_s, cell_codes, cell_scale, cell_dbias, cell_lhs, cell_mt, cell_word, cell_v, cell_slab, cell_inv, cell_q, cell_sc, cell_acc]
    refine iv_next t l g _ _ _ (fun p q r => ?_) rfl
    refine (pay49_at _ p q r).trans ?_
    exact congrArg (fun z => two (127 - (sb z : ℤ))) (hy' p q)

theorem qnt_rule (t : Fin k0_t2_loop.trips) (l : Fin 4) (g : Fin 2) (j : Fin 8) {f : ℕ → ℕ → EReal}
    (hk : ∀ S, Qnt f S₀ t.val l g (j.val + 1) S → Go arg3 arg4 arg5 arg6 arg7 arg8 arg9 arg10 arg11 arg12 arg13 arg14 arg15 arg16 c S k Q) (S : St Ideal) (hS : Qnt f S₀ t.val l g j.val S) :
    Go arg3 arg4 arg5 arg6 arg7 arg8 arg9 arg10 arg11 arg12 arg13 arg14 arg15 arg16 c S (quantise arg11 arg13 arg14 harg14 l g j k) Q := by
  unfold quantise Go
  refine Runs.load_op ?_
  refine Runs.load_op ?_
  refine Runs.load_op ?_
  refine Runs.store_op ?_
  obtain ⟨⟨hK, hc, hwd⟩, hq, hs, hv, hi⟩ := hS
  refine hk _ ⟨⟨⟨hK.1, hK.2.1, hK.2.2.1, hK.2.2.2.1, hK.2.2.2.2.1, hK.2.2.2.2.2⟩, hc, hwd⟩, ?_, hs, hv, hi⟩
  dsimp only [Cell.get, Cell.put, cell_x, cell_s, cell_codes, cell_scale, cell_dbias, cell_lhs, cell_mt, cell_word, cell_v, cell_slab, cell_inv, cell_q, cell_sc, cell_acc]
  refine qd_next t.val l g j _ _ _ (quant_val t.val l g j _ _ S.v S.inv hv hi ?_ ?_) hq rfl
  · intro q a ha
    refine congrArg S.inv (idx2 ![(l.val * 2 + g.val) * 80 + j.val, 0] _ (0 : Fin 1) q a q ?_ ?_)
    · show a.val = (l.val * 2 + g.val) * 80 + j.val + 0; omega
    · show q.val = 0 + q.val; omega
  · intro r q a c' ha hc'
    exact congrArg S.v (idx2 ![(g.val * 8 + j.val) * 32, l.val * 128] _ r q a c' ha hc')

theorem group_rule (t : Fin k0_t2_loop.trips) (l : Fin 4) (g : Fin 2) (m : ℕ) (hm : m = 16 * l.val + 8 * g.val) (h₀ : S₀.x = x) (hw : WordOk s u t.val S₀.word)
    (hk : ∀ S, Grp (val x s u) S₀ t.val (m + 8) S → Go arg3 arg4 arg5 arg6 arg7 arg8 arg9 arg10 arg11 arg12 arg13 arg14 arg15 arg16 c S k Q) (S : St Ideal) (hS : Grp (val x s u) S₀ t.val m S) :
    Go arg3 arg4 arg5 arg6 arg7 arg8 arg9 arg10 arg11 arg12 arg13 arg14 arg15 arg16 c S (group arg3 arg10 arg11 harg11 arg12 harg12 arg13 arg14 harg14 arg15 t l g k) Q := by
  subst hm
  refine seq8_rule arg3 arg4 arg5 arg6 arg7 arg8 arg9 arg10 arg11 arg12 arg13 arg14 arg15 arg16 c (fun n => Dec (val x s u) S₀ t.val l g n) (fun j k' h => dec_rule arg3 arg4 arg5 arg6 arg7 arg8 arg9 arg10 arg11 harg11 arg12 harg12 arg13 arg14 arg15 arg16 c t l g j h₀ hw h) ?_ S
    ⟨hS.1, hS.2.1, hS.2.2, fun j r q hj => absurd hj (Nat.not_lt_zero _), fun j i h q hj => absurd hj (Nat.not_lt_zero _)⟩
  refine sc_rule arg3 arg4 arg5 arg6 arg7 arg8 arg9 arg10 arg11 arg12 arg13 arg14 arg15 arg16 c t l g ?_
  refine seq8_rule arg3 arg4 arg5 arg6 arg7 arg8 arg9 arg10 arg11 arg12 arg13 arg14 arg15 arg16 c (fun n => Qnt (val x s u) S₀ t.val l g n) (fun j k' h => qnt_rule arg3 arg4 arg5 arg6 arg7 arg8 arg9 arg10 arg11 arg12 arg13 arg14 harg14 arg15 arg16 c t l g j h) ?_
  intro S hS
  exact hk S ⟨hS.1, hS.2.1, hS.2.2.1⟩

/-- The codes of the first `n` trips in the result's block. -/
def Cd (f : ℕ → ℕ → EReal) (n : ℕ) (cd : S1x512x6144.Idx → EReal) : Prop :=
  ∀ (k : Fin 512) (τ : Fin 6144), τ.val < 512 * n → cd (ix3 0 k τ) = code f τ.val k.val

theorem cd_next (t : Fin k0_t2_loop.trips) {f : ℕ → ℕ → EReal} (v v' : S1x512x6144.Idx → EReal) (b : Vec Ideal S512x512 .fp8e4m3) (q : S512x512.Idx → EReal)
    (hb : ∀ τ k : Fin 512, b (ix2 τ k) = q (ix2 τ k)) (hq : Qd f t.val 64 q) (hv : Cd f t.val v)
    (h : v' = (Rect.unit (s := S1x512x6144) (k0_off16 t) S1x512x512.size (k0_off16_inb t)).overlay v (k0_pay440 b)) : Cd f (t.val + 1) v' := by
  intro k τ hτ
  have hk := k.isLt
  have o0 : k0_off16 t 0 = 0 := by rw [k0_off16_eq]; rfl
  have o1 : k0_off16 t 1 = 0 := by rw [k0_off16_eq]; rfl
  have o2 : k0_off16 t 2 = 512 * t.val := by rw [k0_off16_eq]; rfl
  by_cases e : 512 * t.val ≤ τ.val
  · have hm : τ.val - 512 * t.val < 512 := by omega
    refine (congrFun h _).trans ((overlay3_in (k0_off16 t) _ _ _ (0 : Fin 1) k τ (0 : Fin 1) k (⟨τ.val - 512 * t.val, hm⟩ : Fin 512) ?_ ?_ ?_).trans ?_)
    · rw [o0]; rfl
    · rw [o1]; omega
    · rw [o2]; show τ.val = 512 * t.val + (τ.val - 512 * t.val); omega
    · have e1 : k0_pay440 (F := Ideal) b (ix3 0 k (⟨τ.val - 512 * t.val, hm⟩ : Fin 512)) = b (ix2 (⟨τ.val - 512 * t.val, hm⟩ : Fin 512) k) := by
        pointwise [k0_pay440]
      refine e1.trans ((hb _ k).trans ((hq _ k ?_).trans ?_))
      · show 16 * (k.val / 128) + (τ.val - 512 * t.val) / 32 < 64; omega
      · rw [show 512 * t.val + (τ.val - 512 * t.val) = τ.val by omega]
  · refine (congrFun h _).trans ((overlay3_out (k0_off16 t) _ _ _ (0 : Fin 1) k τ ?_).trans (hv k τ (by omega)))
    rw [o2]
    left; omega

theorem epi_rule (t : Fin k0_t2_loop.trips) {f : ℕ → ℕ → EReal}
    (hk : ∀ S, Keep S₀ S → Cd f (t.val + 1) S.codes → Sd f t.val 64 S.sc → Go arg3 arg4 arg5 arg6 arg7 arg8 arg9 arg10 arg11 arg12 arg13 arg14 arg15 arg16 c S k Q) (hc₀ : Cd f t.val S₀.codes) (S : St Ideal) (hS : Grp f S₀ t.val 64 S) :
    Go arg3 arg4 arg5 arg6 arg7 arg8 arg9 arg10 arg11 arg12 arg13 arg14 arg15 arg16 c S (epilogue arg5 harg5 arg14 t k) Q := by
  unfold epilogue Go
  refine Runs.load_op ?_
  refine Runs.load_op ?_
  refine Runs.store_op ?_
  obtain ⟨⟨hK, hc, hwd⟩, hq, hs⟩ := hS
  refine hk _ ⟨hK.1, hK.2.1, hK.2.2.1, hK.2.2.2.1, hK.2.2.2.2.1, hK.2.2.2.2.2⟩ ?_ hs
  dsimp only [Cell.get, Cell.put, cell_x, cell_s, cell_codes, cell_scale, cell_dbias, cell_lhs, cell_mt, cell_word, cell_v, cell_slab, cell_inv, cell_q, cell_sc, cell_acc]
  refine cd_next t _ _ _ S.q (fun τ k => ?_) hq (by rw [hc]; exact hc₀) rfl
  refine congrArg S.q (idx2 ![0, 0] _ τ k τ k ?_ ?_)
  · show τ.val = 0 + τ.val; omega
  · show k.val = 0 + k.val; omega

end Rules

end Cert.KernelIdeal.Hand

end
-- ==== Proof.Hand.IdealDbias.lean ====
/-
  `KernelIdeal`'s kernel at one grid point, at the ideal values: the sums over the tokens, the scales and the codes.
-/
module

public import proofs.«01_k».proof.Proof.Hand.IdealSum
public import proofs.«01_k».proof.Proof.Hand.IdealGroup

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (i : grid0.Coords)
variable (arg3 : Memref sig .tc .vmem S1x6144x512 .fp8e4m3) (harg3 : arg3.IsWhole)
variable (arg4 : Memref sig .tc .vmem S1x6144x128 .i8) (harg4 : arg4.IsWhole)
variable (arg5 : Memref sig .tc .vmem S1x512x6144 .fp8e4m3) (harg5 : arg5.IsWhole)
variable (arg6 : Memref sig .tc .vmem S1x512x192 .i8) (harg6 : arg6.IsWhole)
variable (arg7 : Memref sig .tc .vmem S1x12288 .f32) (harg7 : arg7.IsWhole)
variable (arg8 : Memref sig .tc .vmem S3072x256 .bf16) (harg8 : arg8.IsWhole)
variable (arg9 : Memref sig .tc .vmem S128x6144 .bf16) (harg9 : arg9.IsWhole)
variable (arg10 : Memref sig .tc .vmem S256x512 .i32) (harg10 : arg10.IsWhole)
variable (arg11 : Memref sig .tc .vmem S512x512 .bf16) (harg11 : arg11.IsWhole)
variable (arg12 : Memref sig .tc .vmem S640x2x128 .bf16) (harg12 : arg12.IsWhole)
variable (arg13 : Memref sig .tc .vmem S640x128 .i32) (harg13 : arg13.IsWhole)
variable (arg14 : Memref sig .tc .vmem S512x512 .fp8e4m3) (harg14 : arg14.IsWhole)
variable (arg15 : Memref sig .tc .vmem S192x512 .i32) (harg15 : arg15.IsWhole)
variable (arg16 : Memref sig .tc .vmem S16x512 .f32) (harg16 : arg16.IsWhole)

variable (c : Dev nD)

variable {x : S1x6144x512.Idx → EReal} {s : S1x6144x128.Idx → BitVec 8} {d : S1x12288.Idx → EReal}

/-- Between two trips of the main loop, after `n`. -/
def Sums (u : Fin 8) (x : S1x6144x512.Idx → EReal) (s : S1x6144x128.Idx → BitVec 8) (d : S1x12288.Idx → EReal) (n : ℕ) (S : St Ideal) : Prop :=
  (S.x = x ∧ S.s = s ∧ S.dbias = d ∧ Prep s 12 S.lhs S.mt
    ∧ ∀ (p : Fin 16) (k : Fin 512), S.acc (ix2 p k) = ∑ τ ∈ Finset.range (512 * n), tm x s u p k τ)
  ∧ Cd (val x s u) n S.codes ∧ Sd (val x s u) n 0 S.sc

/-- The packed words a trip starts with. -/
theorem word_ok (t : Fin k0_t2_loop.trips) (hs' : ∀ y, 1 ≤ (s y : BitVec 8).toNat ∧ (s y : BitVec 8).toNat ≤ 254) (lhs : S3072x256.Idx → EReal) (mt : S128x6144.Idx → EReal) (hp : Prep s 12 lhs mt)
    (w : S256x512.Idx → BitVec 32)
    (h : ∀ (p : Fin 256) (k : Fin 512), w (ix2 p k) = k0_pay8 (F := Ideal) (k0_pay436 i) (fun y => lhs ((Rect.unit (s := S3072x256) (k0_off5 t) S256x256.size (k0_off5_inb t)).toLoadRect.idx y)) (ix2 p k)) :
    WordOk s (i 2) t.val w := by
  intro p k b
  have ht : t.val < 12 := t.isLt
  have hu : (i 2).val < 8 := (i 2).isLt
  have hp' := p.isLt
  have hk := k.isLt
  have hi : ∀ q : Fin 256, (fun y => lhs ((Rect.unit (s := S3072x256) (k0_off5 t) S256x256.size (k0_off5_inb t)).toLoadRect.idx y)) (ix2 p q) = lhs (ix2 (⟨256 * t.val + p.val, by omega⟩ : Fin 3072) q) := by
    intro q
    refine congrArg lhs (idx2 (k0_off5 t) _ p q _ _ ?_ ?_)
    · rw [k0_off5_eq]; rfl
    · rw [k0_off5_eq]; show q.val = 0 + q.val; omega
  obtain ⟨r0, r1⟩ := pay8_at i (fun y => lhs ((Rect.unit (s := S3072x256) (k0_off5 t) S256x256.size (k0_off5_inb t)).toLoadRect.idx y)) p k
    (s (ix3 0 (⟨2 * (256 * t.val + p.val) + 1, by omega⟩ : Fin 6144) (⟨16 * (i 2).val + k.val / 32, by omega⟩ : Fin 128)))
    (s (ix3 0 (⟨2 * (256 * t.val + p.val), by omega⟩ : Fin 6144) (⟨16 * (i 2).val + k.val / 32, by omega⟩ : Fin 128)))
    (fun q hq => (hi q).trans (hp.2.1 ⟨256 * t.val + p.val, by omega⟩ ⟨16 * (i 2).val + k.val / 32, by omega⟩ q (by show 256 * t.val + p.val < 256 * 12; omega) hq))
    (fun q hq => (hi q).trans (hp.2.2 ⟨256 * t.val + p.val, by omega⟩ ⟨16 * (i 2).val + k.val / 32, by omega⟩ q (by show 256 * t.val + p.val < 256 * 12; omega) hq))
  rw [← h] at r0 r1
  have hb := b.isLt
  have hc : 512 * t.val + (2 * p.val + b.val) < 6144 ∧ k.val < 512 := by omega
  unfold sp
  rw [dif_pos hc]
  rcases (show b.val = 0 ∨ b.val = 1 by omega) with e | e
  · have e' : BitVec.extractLsb' (16 * b.val) 16 (w (ix2 p k)) = _ := (congrArg (fun z => BitVec.extractLsb' (16 * z) 16 (w (ix2 p k))) e).trans r0
    refine (congrArg (Ideal.ofBits FTy.bf16) e').trans ((bf16_pw _ (hs' _).1 (hs' _).2).trans ?_)
    refine congrArg (fun z => pw (s (ix3 0 z _))) (Fin.ext ?_)
    show 2 * (256 * t.val + p.val) = 512 * t.val + (2 * p.val + b.val)
    omega
  · have e' : BitVec.extractLsb' (16 * b.val) 16 (w (ix2 p k)) = _ := (congrArg (fun z => BitVec.extractLsb' (16 * z) 16 (w (ix2 p k))) e).trans r1
    refine (congrArg (Ideal.ofBits FTy.bf16) e').trans ((bf16_pw _ (hs' _).1 (hs' _).2).trans ?_)
    refine congrArg (fun z => pw (s (ix3 0 z _))) (Fin.ext ?_)
    show 2 * (256 * t.val + p.val) + 1 = 512 * t.val + (2 * p.val + b.val)
    omega

theorem sd_trip {f : ℕ → ℕ → EReal} {t : ℕ} {sc : S192x512.Idx → BitVec 32} (h : Sd f t 64 sc) : Sd f (t + 1) 0 sc := by
  intro ρ k hc
  have hk := k.isLt
  exact h ρ k (by omega)

theorem sums_trip (hs' : ∀ y, 1 ≤ (s y : BitVec 8).toNat ∧ (s y : BitVec 8).toNat ≤ 254) (t : Fin k0_t2_loop.trips) (S : St Ideal) (hS : Sums (i 2) x s d t.val S) :
    Go arg3 arg4 arg5 arg6 arg7 arg8 arg9 arg10 arg11 arg12 arg13 arg14 arg15 arg16 c S (trip i arg3 arg5 harg5 arg8 arg9 arg10 arg11 harg11 arg12 harg12 arg13 arg14 harg14 arg15 arg16 (k0_pay436 i) t ())
      (fun _ S' => Sums (i 2) x s d (t.val + 1) S') := by
  have ht : t.val < 12 := t.isLt
  unfold trip
  refine prologue_rule i arg3 arg4 arg5 arg6 arg7 arg8 arg9 arg10 arg11 arg12 arg13 arg14 arg15 arg16 c (k0_pay436 i) t S ?_
  obtain ⟨hS, hC, hD⟩ := hS
  intro S₀ ex es el em ed ec esc ha hwd
  have h₀ : S₀.x = x ∧ S₀.s = s ∧ S₀.dbias = d ∧ Prep s 12 S₀.lhs S₀.mt
    ∧ ∀ (p : Fin 16) (k : Fin 512), S₀.acc (ix2 p k) = ∑ τ ∈ Finset.range (512 * (t.val + 1)), tm x s (i 2) p k τ := by
    refine ⟨ex.trans hS.1, es.trans hS.2.1, ed.trans hS.2.2.1, ?_, fun p k => ?_⟩
    · rw [el, em]; exact hS.2.2.2.1
    · rw [ha p k, hS.2.2.2.2 p k, show 512 * (t.val + 1) = 512 * t.val + 512 by ring, Finset.sum_range_add, Finset.sum_range (n := 512)]
      refine congrArg _ (Finset.sum_congr rfl fun τ _ => ?_)
      have hτ : 512 * t.val + τ.val < 6144 := by omega
      unfold tm
      rw [dif_pos hτ, hS.1, hS.2.2.2.1.1 _ ⟨512 * t.val + τ.val, hτ⟩ (by show 512 * t.val + τ.val < 512 * 12; omega)]
  have hw : WordOk s (i 2) t.val S₀.word := word_ok i t hs' S.lhs S.mt hS.2.2.2.1 S₀.word hwd
  have hC₀ : Cd (val x s (i 2)) t.val S₀.codes := by rw [ec]; exact hC
  have hD₀ : Sd (val x s (i 2)) t.val 0 S₀.sc := by rw [esc]; exact hD
  clear ha hwd
  have hS : Grp (val x s (i 2)) S₀ t.val 0 S₀ := ⟨⟨⟨rfl, rfl, rfl, rfl, rfl, rfl⟩, rfl, rfl⟩, fun τ k h => absurd h (Nat.not_lt_zero _), hD₀⟩
  refine group_rule arg3 arg4 arg5 arg6 arg7 arg8 arg9 arg10 arg11 harg11 arg12 harg12 arg13 arg14 harg14 arg15 arg16 c t ⟨0, by decide⟩ ⟨0, by decide⟩ 0 (by decide) h₀.1 hw (fun S hS => ?_) _ hS
  refine group_rule arg3 arg4 arg5 arg6 arg7 arg8 arg9 arg10 arg11 harg11 arg12 harg12 arg13 arg14 harg14 arg15 arg16 c t ⟨0, by decide⟩ ⟨1, by decide⟩ 8 (by decide) h₀.1 hw (fun S hS => ?_) _ hS
  refine group_rule arg3 arg4 arg5 arg6 arg7 arg8 arg9 arg10 arg11 harg11 arg12 harg12 arg13 arg14 harg14 arg15 arg16 c t ⟨1, by decide⟩ ⟨0, by decide⟩ 16 (by decide) h₀.1 hw (fun S hS => ?_) _ hS
  refine group_rule arg3 arg4 arg5 arg6 arg7 arg8 arg9 arg10 arg11 harg11 arg12 harg12 arg13 arg14 harg14 arg15 arg16 c t ⟨1, by decide⟩ ⟨1, by decide⟩ 24 (by decide) h₀.1 hw (fun S hS => ?_) _ hS
  refine group_rule arg3 arg4 arg5 arg6 arg7 arg8 arg9 arg10 arg11 harg11 arg12 harg12 arg13 arg14 harg14 arg15 arg16 c t ⟨2, by decide⟩ ⟨0, by decide⟩ 32 (by decide) h₀.1 hw (fun S hS => ?_) _ hS
  refine group_rule arg3 arg4 arg5 arg6 arg7 arg8 arg9 arg10 arg11 harg11 arg12 harg12 arg13 arg14 harg14 arg15 arg16 c t ⟨2, by decide⟩ ⟨1, by decide⟩ 40 (by decide) h₀.1 hw (fun S hS => ?_) _ hS
  refine group_rule arg3 arg4 arg5 arg6 arg7 arg8 arg9 arg10 arg11 harg11 arg12 harg12 arg13 arg14 harg14 arg15 arg16 c t ⟨3, by decide⟩ ⟨0, by decide⟩ 48 (by decide) h₀.1 hw (fun S hS => ?_) _ hS
  refine group_rule arg3 arg4 arg5 arg6 arg7 arg8 arg9 arg10 arg11 harg11 arg12 harg12 arg13 arg14 harg14 arg15 arg16 c t ⟨3, by decide⟩ ⟨1, by decide⟩ 56 (by decide) h₀.1 hw (fun S hS => ?_) _ hS
  refine epi_rule arg3 arg4 arg5 harg5 arg6 arg7 arg8 arg9 arg10 arg11 arg12 arg13 arg14 arg15 arg16 c t (fun S hK hCd hSd => Runs.ret ?_) hC₀ _ hS
  obtain ⟨h1, h2, h3, h4, h5, h6⟩ := hK
  refine ⟨⟨h1.trans h₀.1, h2.trans h₀.2.1, h6.trans h₀.2.2.1, ?_, ?_⟩, hCd, sd_trip hSd⟩
  · rw [h3, h4]; exact h₀.2.2.2.1
  · rw [h5]; exact h₀.2.2.2.2

/-- The scales' bytes of a grid point. -/
def Scl (f : ℕ → ℕ → EReal) (sc : S1x512x192.Idx → BitVec 8) : Prop :=
  ∀ (k : Fin 512) (ρ : Fin 192), sc (ix3 0 k ρ) = BitVec.ofNat 8 (sK f ρ.val k.val)

theorem scl_next {f : ℕ → ℕ → EReal} (v v' : S1x512x192.Idx → BitVec 8) (b : Vec Ideal S192x512 .i32) (sc : S192x512.Idx → BitVec 32)
    (hb : ∀ (ρ : Fin 192) (k : Fin 512), b (ix2 ρ k) = sc (ix2 ρ k)) (hd : Sd f 12 0 sc)
    (h : v' = (Rect.unit (s := S1x512x192) ![0, 0, 0] S1x512x192.size inb_S1x512x192_S1x512x192_0_0_0).overlay v (k0_pay441 b)) : Scl f v' := by
  intro k ρ
  have e1 : k0_pay441 b (ix3 0 k ρ) = BitVec.setWidth 8 (b (ix2 ρ k)) := by
    pointwise [k0_pay441]
  refine (congrFun h _).trans ((overlay3_in ![0, 0, 0] _ _ _ (0 : Fin 1) k ρ (0 : Fin 1) k ρ (by simp) (by simp) (by simp)).trans (e1.trans ?_))
  have hρ := ρ.isLt
  rw [hb, hd ρ k (by omega)]
  exact BitVec.setWidth_ofNat_of_le (by omega) _

theorem second_rule (arg2 : BitVec 32) (hs' : ∀ y, 1 ≤ (s y : BitVec 8).toNat ∧ (s y : BitVec 8).toNat ≤ 254) (S : St Ideal) (hx : S.x = x) (hs : S.s = s) (hd : S.dbias = d) (hp : Prep s 12 S.lhs S.mt) :
    Go arg3 arg4 arg5 arg6 arg7 arg8 arg9 arg10 arg11 arg12 arg13 arg14 arg15 arg16 c S (k0_part95 (F := Ideal) i arg3 harg3 arg4 harg4 arg5 harg5 arg6 harg6 arg7 harg7 arg8 harg8 arg9 harg9 arg10 harg10 arg11 harg11 arg12 harg12 arg13 harg13 arg14 harg14 arg15 harg15 arg16 harg16 arg2 (k0_pay436 i) (k0_pay437 (F := Ideal))) (fun a S' => S'.x = x ∧ S'.s = s ∧ S'.dbias = d ∧ Prep s 12 S'.lhs S'.mt
      ∧ a.1 = k0_pay442 ∧ (∀ (p : Fin 16) (k : Fin 512), a.2.1 (ix2 p k) = ∑ τ ∈ Finset.range 6144, tm x s (i 2) p k τ) ∧ a.2.2 = Ideal.ofBits .f32 0#32 ∧ Cd (val x s (i 2)) 12 S'.codes ∧ Scl (val x s (i 2)) S'.scale) := by
  rw [k0_part95_eq_skeleton]
  unfold k0_part95_skel
  rw [t2_body_eq]
  refine Runs.load ?_
  refine Runs.store ?_
  refine Runs.bind ?_
  refine Runs.mono (Runs.loop _ _ _ _ (fun n _ S' => Sums (i 2) x s d n S') ⟨⟨hx, hs, hd, hp, ?_⟩, fun k τ h => absurd h (Nat.not_lt_zero _), fun ρ k h => by omega⟩ ?_) ?_
  · intro p k
    dsimp only [Cell.get, Cell.put, cell_acc]
    refine (overlay2_in ![0, 0] _ _ _ p k p k (by simp) (by simp)).trans ?_
    rw [pay438_at]
    rfl
  · intro k a S hS
    exact sums_trip i arg3 arg4 arg5 harg5 arg6 arg7 arg8 arg9 arg10 arg11 harg11 arg12 harg12 arg13 arg14 harg14 arg15 arg16 c hs' k S hS
  · rintro a S' ⟨hS', hC, hD⟩
    refine Runs.load ?_
    refine Runs.load ?_
    refine Runs.store ?_
    refine Runs.load ?_
    refine Runs.ret ⟨hS'.1, hS'.2.1, hS'.2.2.1, hS'.2.2.2.1, rfl, fun p k => ?_, rfl, hC, ?_⟩
    rotate_left
    · dsimp only [Cell.get, Cell.put, cell_x, cell_s, cell_codes, cell_scale, cell_dbias, cell_lhs, cell_mt, cell_word, cell_v, cell_slab, cell_inv, cell_q, cell_sc, cell_acc]
      refine scl_next _ _ _ S'.sc (fun ρ k => ?_) hD rfl
      exact congrArg S'.sc (idx2 ![0, 0] _ ρ k ρ k (by simp) (by simp))
    exact (congrArg S'.acc (idx2 ![0, 0] _ p k p k (by simp) (by simp))).trans (hS'.2.2.2.2 p k)

/-- The results' sums after a grid point, from those before it. -/
def Dbias (b : Fin 3) (sup : Fin 3) (u : Fin 8) (x : S1x6144x512.Idx → EReal) (s : S1x6144x128.Idx → BitVec 8) (d d' : S1x12288.Idx → EReal) : Prop :=
  (∀ (k : Fin 512) (n : Fin 12288), n.val = 4096 * sup.val + 512 * u.val + k.val →
    d' (ix2 0 n) = (if b.val = 0 then 0 else d (ix2 0 n)) + ∑ τ ∈ Finset.range 6144, tm x s u ⟨k.val / 32, by omega⟩ k τ)
  ∧ ∀ n : Fin 12288, (n.val < 4096 * sup.val + 512 * u.val ∨ 4096 * sup.val + 512 * u.val + 512 ≤ n.val) → d' (ix2 0 n) = d (ix2 0 n)

theorem dbias_next (a0 : BitVec 32) (h0 : a0 = BitVec.ofNat 32 (i 0).val) (d d' : S1x12288.Idx → Elt Ideal .f32) (acc : Vec Ideal S16x512 .f32) (dl : Vec Ideal S1x512 .f32)
    (hacc : ∀ (p : Fin 16) (k : Fin 512), acc (ix2 p k) = ∑ τ ∈ Finset.range 6144, tm x s (i 2) p k τ)
    (hdl : ∀ (k : Fin 512) (n : Fin 12288), n.val = 4096 * (i 1).val + 512 * (i 2).val + k.val → dl (ix2 0 k) = d (ix2 0 n))
    (h : d' = (Rect.unit (s := S1x12288) (k0_off17 i) S1x512.size (k0_off17_inb i)).overlay d (k0_pay1 a0 k0_pay442 acc (Ideal.ofBits .f32 0#32) dl)) :
    Dbias (i 0) (i 1) (i 2) x s d d' := by
  refine ⟨fun k n hn => ?_, fun n hn => ?_⟩
  · refine (congrFun h _).trans ((overlay2_in (k0_off17 i) _ _ _ (0 : Fin 1) n (0 : Fin 1) k ?_ ?_).trans ?_)
    · rw [k0_off17_eq]; rfl
    · rw [k0_off17_eq]; exact hn
    · rw [pay1_at, hacc, hdl k n hn, h0]
      have hi : (i 0).val < 3 := (i 0).isLt
      by_cases h0 : (i 0).val = 0
      · rw [if_pos h0, h0, if_pos rfl, zero_add]
      · rw [if_neg h0, if_neg]
        intro he
        have := congrArg BitVec.toNat he
        simp at this
        omega
  · refine (congrFun h _).trans (overlay2_out (k0_off17 i) _ _ _ (0 : Fin 1) n ?_)
    rw [k0_off17_eq]; right; right; exact hn

theorem body_rule (S : St Ideal) (hx : S.x = x) (hs : S.s = s) (hs' : ∀ y, 1 ≤ (s y : BitVec 8).toNat ∧ (s y : BitVec 8).toNat ≤ 254)
    (hp : (i 2).val ≠ 0 → Prep s 12 S.lhs S.mt) :
    Go arg3 arg4 arg5 arg6 arg7 arg8 arg9 arg10 arg11 arg12 arg13 arg14 arg15 arg16 c S (cc0_requant (F := Ideal) i arg3 harg3 arg4 harg4 arg5 harg5 arg6 harg6 arg7 harg7 arg8 harg8 arg9 harg9 arg10 harg10 arg11 harg11 arg12 harg12 arg13 harg13 arg14 harg14 arg15 harg15 arg16 harg16) (fun _ S' => S'.x = x ∧ S'.s = s ∧ Prep s 12 S'.lhs S'.mt ∧ Dbias (i 0) (i 1) (i 2) x s S.dbias S'.dbias
      ∧ Cd (val x s (i 2)) 12 S'.codes ∧ Scl (val x s (i 2)) S'.scale) := by
  rw [cc0_requant_eq_skeleton]
  unfold cc0_requant_skel
  refine Runs.bind ?_
  refine (first_rule i arg3 harg3 arg4 harg4 arg5 harg5 arg6 harg6 arg7 harg7 arg8 harg8 arg9 harg9 arg10 harg10 arg11 harg11 arg12 harg12 arg13 harg13 arg14 harg14 arg15 harg15 arg16 harg16 c S (by rw [hs]; exact hs') (by rw [hs]; exact hp)).mono ?_
  intro a S' hS'
  rw [hs] at hS'
  obtain ⟨e1, e2, e3, e4, rfl⟩ := hS'
  refine Runs.bind ?_
  refine (second_rule i arg3 harg3 arg4 harg4 arg5 harg5 arg6 harg6 arg7 harg7 arg8 harg8 arg9 harg9 arg10 harg10 arg11 harg11 arg12 harg12 arg13 harg13 arg14 harg14 arg15 harg15 arg16 harg16 c (x := x) (s := s) (d := S.dbias) _ hs' S' (e1.trans hx) e2 e3 e4).mono ?_
  intro a S'' hS''
  obtain ⟨m, acc, z⟩ := a
  obtain ⟨f1, f2, f3, f4, f5, f6, f7, f8, f9⟩ := hS''
  dsimp only at f5 f6 f7
  subst f5 f7
  refine Runs.load ?_
  refine Runs.load ?_
  refine Runs.store ?_
  refine Runs.ret ⟨f1, f2, f4, ?_, f8, f9⟩
  dsimp only [Cell.get, Cell.put, cell_dbias]
  rw [f3]
  refine dbias_next i _ rfl _ _ acc _ f6 ?_ rfl
  intro k n hn
  exact congrArg S.dbias (idx2 (k0_off17 i) _ (0 : Fin 1) k (0 : Fin 1) n (by rw [k0_off17_eq]; rfl) (by rw [k0_off17_eq]; exact hn))

end Cert.KernelIdeal.Hand

end
-- ==== Proof.Hand.IdealLaunch.lean ====
/-
  `KernelIdeal`'s launch at the ideal values: what a run of @main leaves in the arrays, first the sums over the tokens.
-/
module

public import proofs.«01_k».proof.Proof.Hand.IdealDbias
public import proofs.«01_k».proof.Proof.Hand.IdealBody
public import Idealize.ShloMosaic.Lib.Pipeline.ArrRel

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable (m : (ℓ : Loc nD τ sig) → Buf (Elt Ideal) ℓ)

/-- The codes' array, as launched. -/
def xA (c : Dev nD) : S3x6144x12288.Idx → EReal := m ((c.tc : Thread nD τ).loc main_arg0)
/-- The scales' array, as launched. -/
def sA (c : Dev nD) : S3x6144x384.Idx → BitVec 8 := m ((c.tc : Thread nD τ).loc main_arg1)

/-- Its block of 512 columns. -/
def xB (c : Dev nD) (b sup : Fin 3) (u : Fin 8) : S1x6144x512.Idx → EReal := fun y =>
  xA m c (ix3 b (⟨(y 1).val, (y 1).isLt⟩ : Fin 6144) (⟨4096 * sup.val + 512 * u.val + (y 2).val, by have h : (y 2).val < 512 := (y 2).isLt; omega⟩ : Fin 12288))
/-- Its block of 128 columns. -/
def sB (c : Dev nD) (b sup : Fin 3) : S1x6144x128.Idx → BitVec 8 := fun y =>
  sA m c (ix3 b (⟨(y 1).val, (y 1).isLt⟩ : Fin 6144) (⟨128 * sup.val + (y 2).val, by have h : (y 2).val < 128 := (y 2).isLt; omega⟩ : Fin 384))

theorem point : ∀ t : Fin cfg0.N, (grid0.coords t 0).val = t.val / 24 ∧ (grid0.coords t 1).val = t.val / 8 % 3 ∧ (grid0.coords t 2).val = t.val % 8 := by decide +kernel
theorem index_0 : ∀ t : Fin cfg0.N, cc0_transform_0 (grid0.coords t) 0 = (grid0.coords t 0).val ∧ cc0_transform_0 (grid0.coords t) 1 = 0
    ∧ cc0_transform_0 (grid0.coords t) 2 = 8 * (grid0.coords t 1).val + (grid0.coords t 2).val := by decide +kernel
theorem index_1 : ∀ t : Fin cfg0.N, cc0_transform_1 (grid0.coords t) 0 = (grid0.coords t 0).val ∧ cc0_transform_1 (grid0.coords t) 1 = 0
    ∧ cc0_transform_1 (grid0.coords t) 2 = (grid0.coords t 1).val := by decide +kernel

theorem block_0 (c : Dev nD) (t : Fin cfg0.N) : iblk m c 0 t = xB m c (grid0.coords t 0) (grid0.coords t 1) (grid0.coords t 2) := by
  funext y
  obtain ⟨h0, h1, h2⟩ := index_0 t
  have y0 : (y 0).val < 1 := (y 0).isLt
  show m _ _ = m _ _
  refine congrArg (m ((c.tc : Thread nD τ).loc main_arg0)) ?_
  funext a
  apply Fin.ext
  fin_cases a
  · show cc0_transform_0 (grid0.coords t) 0 * 1 + 1 * (y 0).val = (grid0.coords t 0).val
    rw [h0]; omega
  · show cc0_transform_0 (grid0.coords t) 1 * 6144 + 1 * (y 1).val = (y 1).val
    rw [h1]; omega
  · show cc0_transform_0 (grid0.coords t) 2 * 512 + 1 * (y 2).val = 4096 * (grid0.coords t 1).val + 512 * (grid0.coords t 2).val + (y 2).val
    rw [h2]; ring

theorem block_1 (c : Dev nD) (t : Fin cfg0.N) : iblk m c 1 t = sB m c (grid0.coords t 0) (grid0.coords t 1) := by
  funext y
  obtain ⟨h0, h1, h2⟩ := index_1 t
  have y0 : (y 0).val < 1 := (y 0).isLt
  show m _ _ = m _ _
  refine congrArg (m ((c.tc : Thread nD τ).loc main_arg1)) ?_
  funext a
  apply Fin.ext
  fin_cases a
  · show cc0_transform_1 (grid0.coords t) 0 * 1 + 1 * (y 0).val = (grid0.coords t 0).val
    rw [h0]; omega
  · show cc0_transform_1 (grid0.coords t) 1 * 6144 + 1 * (y 1).val = (y 1).val
    rw [h1]; omega
  · show cc0_transform_1 (grid0.coords t) 2 * 128 + 1 * (y 2).val = 128 * (grid0.coords t 1).val + (y 2).val
    rw [h2]; ring

/-- Between two grid points of one super-tile the prepared scales are those of its block. -/
def Ready (c : Dev nD) (t : Fin (cfg0.N + 1)) (lhs : S3072x256.Idx → Elt Ideal .bf16) (mt : S128x6144.Idx → Elt Ideal .bf16) : Prop :=
  ∀ b sup : Fin 3, b.val = t.val / 24 → sup.val = t.val / 8 % 3 → t.val % 8 ≠ 0 → Prep (sB m c b sup) 12 lhs mt

/-- What the body makes of each window's buffer. -/
def Made (c : Dev nD) : (w : Fin cfg0.W) → Fin cfg0.N → (Y X : (cfg0.win w).block.Idx → Elt Ideal (cfg0.win w).elt) → Prop
  | 0, _, Y, X => X = Y
  | 1, _, Y, X => X = Y
  | 2, t, _, X => Cd (val (xB m c (grid0.coords t 0) (grid0.coords t 1) (grid0.coords t 2)) (sB m c (grid0.coords t 0) (grid0.coords t 1)) (grid0.coords t 2)) 12 X
  | 3, t, _, X => Scl (val (xB m c (grid0.coords t 0) (grid0.coords t 1) (grid0.coords t 2)) (sB m c (grid0.coords t 0) (grid0.coords t 1)) (grid0.coords t 2)) X
  | 4, t, Y, X => Dbias (grid0.coords t 0) (grid0.coords t 1) (grid0.coords t 2) (xB m c (grid0.coords t 0) (grid0.coords t 1) (grid0.coords t 2)) (sB m c (grid0.coords t 0) (grid0.coords t 1)) Y X
  | ⟨_ + 5, h⟩, _, _, _ => absurd h (Nat.not_lt.2 (Nat.le_add_left _ _))

abbrev vdat (c : Dev nD) := rdat m (Ready m c) (Made m c) c

theorem found_0 (c : Dev nD) (t : Fin cfg0.N) (Y) (h : (vdat m c).Finds 0 t Y) : Y = xB m c (grid0.coords t 0) (grid0.coords t 1) (grid0.coords t 2) := by
  obtain ⟨d, hd⟩ := RDat.finds_in_eq_fetched (vdat m c) 0 rfl (fun _ _ _ => rfl) (fun t Y X h => h) t Y h
  rw [← block_0, hd]
  rfl

theorem found_1 (c : Dev nD) (t : Fin cfg0.N) (Y) (h : (vdat m c).Finds 1 t Y) : Y = sB m c (grid0.coords t 0) (grid0.coords t 1) := by
  obtain ⟨d, hd⟩ := RDat.finds_in_eq_fetched (vdat m c) 1 rfl (fun _ _ _ => rfl) (fun t Y X h => h) t Y h
  rw [← block_1, hd]
  rfl

theorem value_obligation (c : Dev nD) (hs : ∀ y, 1 ≤ (sA m c y).toNat ∧ (sA m c y).toNat ≤ 254) :
    (vdat m c).BodyObligation (defs₀ (F := Ideal)) Variants.none () Set.univ :=
  obligation m _ _ c fun t S h0 h1 _ _ _ hJ => by
    obtain ⟨p0, p1, p2⟩ := point t
    have e0 := found_0 m c t _ h0
    have e1 := found_1 m c t _ h1
    have ht : t.val < 72 := t.isLt
    refine (body_rule (x := S.x) (s := S.s) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) c S rfl rfl ?_ ?_).mono ?_
    · intro y; rw [e1]; exact hs _
    · intro h
      rw [e1]
      exact hJ _ _ p0 p1 (by rw [p2] at h; exact h)
    · rintro _ S' ⟨q1, q2, q3, q4, q5, q6⟩
      refine ⟨?_, q1, q2, ?_, ?_, ?_⟩
      · intro b sup hb hsup hm
        rw [e1] at q3
        have hm' : (t.val + 1) % 8 ≠ 0 := hm
        have eb : b = grid0.coords t 0 := Fin.ext (by rw [hb, p0]; show (t.val + 1) / 24 = t.val / 24; omega)
        have es : sup = grid0.coords t 1 := Fin.ext (by rw [hsup, p1]; show (t.val + 1) / 8 % 3 = t.val / 8 % 3; omega)
        rw [eb, es]
        exact q3
      · rw [e0, e1] at q5
        exact q5
      · rw [e0, e1] at q6
        exact q6
      · rw [e0, e1] at q4
        exact q4

/-- One batch's share of a column's sum. -/
def share (x : S3x6144x12288.Idx → EReal) (s : S3x6144x384.Idx → BitVec 8) (b : Fin 3) (d : Fin 12288) : EReal :=
  ∑ τ : Fin 6144, pw (s (ix3 b τ (⟨d.val / 32, by omega⟩ : Fin 384))) * x (ix3 b τ d)

theorem share_eq (c : Dev nD) (b sup : Fin 3) (u : Fin 8) (k : Fin 512) (d : Fin 12288) (hd : d.val = 4096 * sup.val + 512 * u.val + k.val) :
    ∑ τ ∈ Finset.range 6144, tm (xB m c b sup u) (sB m c b sup) u ⟨k.val / 32, by omega⟩ k τ = share (xA m c) (sA m c) b d := by
  rw [Finset.sum_range (n := 6144)]
  refine Finset.sum_congr rfl fun τ _ => ?_
  unfold tm
  rw [dif_pos τ.isLt]
  unfold xB sB
  refine congr_arg₂ (fun a b => pw (sA m c a) * xA m c b) ?_ ?_
  · refine congrArg (ix3 b τ) (Fin.ext ?_)
    show 128 * sup.val + (16 * u.val + k.val / 32) = d.val / 32
    omega
  · refine congrArg (ix3 b τ) (Fin.ext ?_)
    show 4096 * sup.val + 512 * u.val + k.val = d.val
    omega

theorem made_4 (c : Dev nD) (t : Fin cfg0.N) (X : S1x12288.Idx → EReal) (h : (vdat m c).Leaves 4 t X) :
    ∃ Y : S1x12288.Idx → EReal, (vdat m c).Finds 4 t Y
      ∧ (∀ (b : Fin 3) (d : Fin 12288), b.val = t.val / 24 → d.val / 512 = t.val % 24 →
        X (ix2 0 d) = (if b.val = 0 then 0 else Y (ix2 0 d)) + share (xA m c) (sA m c) b d)
      ∧ ∀ d : Fin 12288, d.val / 512 ≠ t.val % 24 → X (ix2 0 d) = Y (ix2 0 d) := by
  obtain ⟨Y, hY, hM⟩ := h
  obtain ⟨p0, p1, p2⟩ := point t
  have ht : t.val < 72 := t.isLt
  obtain ⟨b₀, hb₀⟩ : ∃ b₀ : Fin 3, b₀ = grid0.coords t 0 := ⟨_, rfl⟩
  obtain ⟨sup, hsup⟩ : ∃ sup : Fin 3, sup = grid0.coords t 1 := ⟨_, rfl⟩
  obtain ⟨u, hu⟩ : ∃ u : Fin 8, u = grid0.coords t 2 := ⟨_, rfl⟩
  have hM' : Dbias b₀ sup u (xB m c b₀ sup u) (sB m c b₀ sup) Y X := by rw [hb₀, hsup, hu]; exact hM
  have v0 : b₀.val = t.val / 24 := (congrArg Fin.val hb₀).trans p0
  have v1 : sup.val = t.val / 8 % 3 := (congrArg Fin.val hsup).trans p1
  have v2 : u.val = t.val % 8 := (congrArg Fin.val hu).trans p2
  refine ⟨Y, hY, fun b d hb hd => ?_, fun d hd => ?_⟩
  · have e : b = b₀ := Fin.ext (hb.trans v0.symm)
    subst e
    have hk : d.val = 4096 * sup.val + 512 * u.val + d.val % 512 := by omega
    refine (hM'.1 ⟨d.val % 512, by omega⟩ d hk).trans ?_
    rw [share_eq m c b sup u ⟨d.val % 512, by omega⟩ d hk]
  · exact hM'.2 d (by omega)

theorem left_4 (c : Dev nD) : ∀ (n : ℕ) (t : Fin cfg0.N), t.val = n → ∀ X : S1x12288.Idx → EReal, (vdat m c).Leaves 4 t X → ∀ (b : Fin 3) (d : Fin 12288),
    24 * b.val + d.val / 512 ≤ n → n < 24 * (b.val + 1) + d.val / 512 →
      X (ix2 0 d) = ∑ b' : Fin 3, if b'.val ≤ b.val then share (xA m c) (sA m c) b' d else 0 := by
  intro n
  induction n with
  | zero =>
    intro t ht X hX b d h1 h2
    obtain ⟨Y, hY, hM, -⟩ := made_4 m c t X hX
    have hb : b = 0 := Fin.ext (by show b.val = 0; omega)
    subst hb
    rw [hM 0 d (by rw [ht]; rfl) (by omega)]
    simp [Fin.sum_univ_three]
  | succ n ih =>
    intro t ht X hX b d h1 h2
    obtain ⟨Y, hY, hM, hM'⟩ := made_4 m c t X hX
    have htl : t.val < 72 := t.isLt
    have hY' : (vdat m c).Leaves 4 ⟨t.val - 1, by omega⟩ Y := by
      rcases (RDat.finds_of_pos (vdat m c) ((cfg0.win 4).fetch_out rfl t) (by omega) Y).mp hY with hf | hl
      · have hf' := (flush0_4 _).mp hf
        have hf'' : (t.val - 1) % 72 = 71 := hf'
        omega
      · exact hl
    have ih' := ih ⟨t.val - 1, by omega⟩ (by show t.val - 1 = n; omega) Y hY'
    by_cases hg : d.val / 512 = t.val % 24
    · have hb : b.val = t.val / 24 := by omega
      rw [hM b d hb hg]
      by_cases h0 : b.val = 0
      · rw [if_pos h0, Fin.sum_univ_three]
        have : b = 0 := Fin.ext h0
        rw [this]
        simp
      · rw [if_neg h0, ih' ⟨b.val - 1, by omega⟩ d (by show 24 * (b.val - 1) + _ ≤ n; omega) (by show n < 24 * (b.val - 1 + 1) + _; omega)]
        have : b = 1 ∨ b = 2 := by
          rcases (show b.val = 1 ∨ b.val = 2 by omega) with h | h
          · exact .inl (Fin.ext h)
          · exact .inr (Fin.ext h)
        rcases this with rfl | rfl <;> simp [Fin.sum_univ_three]
    · rw [hM' d hg]
      exact ih' b d (by omega) (by omega)

open Classical in
set_option backward.isDefEq.respectTransparency.types false in
/-- A run of @main, and what each array may hold after it. -/
theorem run_value (ρ : Dev nD → PrngReg) (hs : ∀ c y, 1 ≤ (sA m c y).toNat ∧ (sA m c y).toNat ≤ 254) :
    θ_run (Val := Elt Ideal) (sig := sig) (defs (F := Ideal)) (onTc (τ := τ) (main (F := Ideal))) ⟨m, fun _ => 0, ρ⟩
    (fun r => RDat.FramePost (cfgs 0) (vdat m) (V m) r ∧ r.2.sem = fun _ => 0) :=
  RDat.θ_run_frame_track cfgs (0 : Fin 1) launch0 (defs₀ (F := Ideal)) Variants.none (vdat m) m ρ main
    (hbody := fun c => value_obligation m c (hs c)) (hshare := fun c w => by unfold RDat.share; split <;> rfl) (howed := fun _ _ => rfl) (V := V m)
    (hmain := hmain m Variants.none) (hA := fun _ _ => rfl) (hin := fun c => between_of _ (fun _ _ _ _ _ _ h => absurd rfl h) c)
    (hout := fun c => of_between _ c) (Q' := _) (hQ' := fun r h => h)

/-- The sums over the tokens, of the arguments' elements. -/
def sums (c : Dev nD) : S1x12288.Idx → EReal := fun j => ∑ b : Fin 3, share (xA m c) (sA m c) b ⟨(j 1).val, (j 1).isLt⟩

theorem whole_4 : (cfg0.win 4).WholeAt ⟨71, by decide⟩ := by decide +kernel

theorem dbias_eq {r : PUnit × MemSt nD τ sig (Elt Ideal)} (h : RDat.FramePost (cfgs 0) (vdat m) (V m) r) (c : Dev nD) :
    r.2.mem ((c.tc : Thread nD τ).loc main_v0_2) = sums m c := by
  obtain ⟨X, hX, hG⟩ := RDat.ArrAt.emb_eq_of_wholeAt (rd := vdat m c) ((h c).1 4) whole_4
  funext j
  have hj : (j 1).val < 12288 := (j 1).isLt
  have := left_4 m c 71 ⟨71, by decide⟩ rfl X hX 2 ⟨(j 1).val, (j 1).isLt⟩ (by show 48 + (j 1).val / 512 ≤ 71; omega) (by show 71 < 72 + _; omega)
  have e : (fun a => (⟨j a, whole_4.lt_size j a⟩ : Fin (S1x12288.size a))) = ix2 (0 : Fin 1) (⟨(j 1).val, (j 1).isLt⟩ : Fin 12288) := by
    funext a
    apply Fin.ext
    fin_cases a
    · show (j 0).val = 0
      have : (j 0).val < 1 := (j 0).isLt
      omega
    · rfl
  refine (hG j).trans ((congrArg X e).trans (this.trans ?_))
  show _ = ∑ b : Fin 3, share (xA m c) (sA m c) b ⟨(j 1).val, (j 1).isLt⟩
  exact Finset.sum_congr (M := EReal) rfl fun b _ => if_pos (Nat.le_of_lt_succ b.isLt)

end Cert.KernelIdeal.Hand

end
-- ==== Proof.Hand.IdealOut.lean ====
/-
  `KernelIdeal`'s launch at the ideal values: what a run of @main leaves in the codes and in the scales.
-/
module

public import proofs.«01_k».proof.Proof.Hand.IdealLaunch

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

/-- A code times its block's factor. -/
def gv (x : S3x6144x12288.Idx → EReal) (s : S3x6144x384.Idx → BitVec 8) (b : Fin 3) (τ : Fin 6144) (d : Fin 12288) : EReal :=
  x (ix3 b τ d) * pw (s (ix3 b τ (⟨d.val / 32, by omega⟩ : Fin 384)))

/-- The scale of the 32 tokens from `32 ρ` on. -/
def gs (x : S3x6144x12288.Idx → EReal) (s : S3x6144x384.Idx → BitVec 8) (b : Fin 3) (d : Fin 12288) (ρ : Fin 192) : ℕ :=
  sb (amax (fun j => gv x s b ⟨32 * ρ.val + j.val, by omega⟩ d) * Ideal.ofBits FTy.f32 991054117#32)

/-- The scales and the codes, of the arguments' elements. -/
def scaleAt (x : S3x6144x12288.Idx → EReal) (s : S3x6144x384.Idx → BitVec 8) (b : Fin 3) (d : Fin 12288) (ρ : Fin 192) : BitVec 8 :=
  BitVec.ofNat 8 (gs x s b d ρ)
def codeAt (x : S3x6144x12288.Idx → EReal) (s : S3x6144x384.Idx → BitVec 8) (b : Fin 3) (d : Fin 12288) (τ : Fin 6144) : EReal :=
  clip (gv x s b τ d) (two (127 - (gs x s b d ⟨τ.val / 32, by omega⟩ : ℤ)))

variable (m : (ℓ : Loc nD τ sig) → Buf (Elt Ideal) ℓ)

theorem val_eq (c : Dev nD) (b sup : Fin 3) (u : Fin 8) (τ : Fin 6144) (k : Fin 512) (d : Fin 12288) (hd : d.val = 4096 * sup.val + 512 * u.val + k.val) :
    val (xB m c b sup u) (sB m c b sup) u τ.val k.val = gv (xA m c) (sA m c) b τ d := by
  unfold val xp sp gv
  rw [dif_pos ⟨τ.isLt, k.isLt⟩, dif_pos ⟨τ.isLt, k.isLt⟩]
  unfold xB sB
  refine congr_arg₂ (fun p q => xA m c p * pw (sA m c q)) ?_ ?_
  · refine congrArg (ix3 b τ) (Fin.ext ?_)
    show 4096 * sup.val + 512 * u.val + k.val = d.val
    omega
  · refine congrArg (ix3 b τ) (Fin.ext ?_)
    show 128 * sup.val + (16 * u.val + k.val / 32) = d.val / 32
    omega

theorem scale_eq (c : Dev nD) (b sup : Fin 3) (u : Fin 8) (ρ : Fin 192) (k : Fin 512) (d : Fin 12288) (hd : d.val = 4096 * sup.val + 512 * u.val + k.val) :
    sK (val (xB m c b sup u) (sB m c b sup) u) ρ.val k.val = gs (xA m c) (sA m c) b d ρ := by
  unfold sK bnd gs
  refine congrArg (fun f => sb (amax f * Ideal.ofBits FTy.f32 991054117#32)) (funext fun j => ?_)
  exact val_eq m c b sup u ⟨32 * ρ.val + j.val, by omega⟩ k d hd

theorem code_eq (c : Dev nD) (b sup : Fin 3) (u : Fin 8) (τ : Fin 6144) (k : Fin 512) (d : Fin 12288) (hd : d.val = 4096 * sup.val + 512 * u.val + k.val) :
    code (val (xB m c b sup u) (sB m c b sup) u) τ.val k.val = codeAt (xA m c) (sA m c) b d τ := by
  unfold code codeAt
  rw [val_eq m c b sup u τ k d hd]
  rw [show sK (val (xB m c b sup u) (sB m c b sup) u) (τ.val / 32) k.val = _ from scale_eq m c b sup u ⟨τ.val / 32, by omega⟩ k d hd]

theorem index_2 : ∀ t : Fin cfg0.N, cc0_transform_2 (grid0.coords t) 0 = t.val / 24 ∧ cc0_transform_2 (grid0.coords t) 1 = t.val % 24
    ∧ cc0_transform_2 (grid0.coords t) 2 = 0 := by decide +kernel
theorem index_3 : ∀ t : Fin cfg0.N, cc0_transform_3 (grid0.coords t) 0 = t.val / 24 ∧ cc0_transform_3 (grid0.coords t) 1 = t.val % 24
    ∧ cc0_transform_3 (grid0.coords t) 2 = 0 := by decide +kernel

theorem made_2 (c : Dev nD) (t : Fin cfg0.N) (X : S1x512x6144.Idx → EReal) (h : (vdat m c).Leaves 2 t X) (b : Fin 3) (d : Fin 12288) (k : Fin 512) (τ : Fin 6144)
    (hb : b.val = t.val / 24) (hd : d.val = 512 * (t.val % 24) + k.val) : X (ix3 0 k τ) = codeAt (xA m c) (sA m c) b d τ := by
  obtain ⟨Y, hY, hM⟩ := h
  obtain ⟨p0, p1, p2⟩ := point t
  have ht : t.val < 72 := t.isLt
  obtain ⟨b₀, hb₀⟩ : ∃ b₀ : Fin 3, b₀ = grid0.coords t 0 := ⟨_, rfl⟩
  obtain ⟨sup, hsup⟩ : ∃ sup : Fin 3, sup = grid0.coords t 1 := ⟨_, rfl⟩
  obtain ⟨u, hu⟩ : ∃ u : Fin 8, u = grid0.coords t 2 := ⟨_, rfl⟩
  have hM' : Cd (val (xB m c b₀ sup u) (sB m c b₀ sup) u) 12 X := by rw [hb₀, hsup, hu]; exact hM
  have v0 : b₀.val = t.val / 24 := (congrArg Fin.val hb₀).trans p0
  have v1 : sup.val = t.val / 8 % 3 := (congrArg Fin.val hsup).trans p1
  have v2 : u.val = t.val % 8 := (congrArg Fin.val hu).trans p2
  have e : b = b₀ := Fin.ext (hb.trans v0.symm)
  subst e
  exact (hM' k τ (by omega)).trans (code_eq m c b sup u τ k d (by omega))

theorem made_3 (c : Dev nD) (t : Fin cfg0.N) (X : S1x512x192.Idx → BitVec 8) (h : (vdat m c).Leaves 3 t X) (b : Fin 3) (d : Fin 12288) (k : Fin 512) (ρ : Fin 192)
    (hb : b.val = t.val / 24) (hd : d.val = 512 * (t.val % 24) + k.val) : X (ix3 0 k ρ) = scaleAt (xA m c) (sA m c) b d ρ := by
  obtain ⟨Y, hY, hM⟩ := h
  obtain ⟨p0, p1, p2⟩ := point t
  have ht : t.val < 72 := t.isLt
  obtain ⟨b₀, hb₀⟩ : ∃ b₀ : Fin 3, b₀ = grid0.coords t 0 := ⟨_, rfl⟩
  obtain ⟨sup, hsup⟩ : ∃ sup : Fin 3, sup = grid0.coords t 1 := ⟨_, rfl⟩
  obtain ⟨u, hu⟩ : ∃ u : Fin 8, u = grid0.coords t 2 := ⟨_, rfl⟩
  have hM' : Scl (val (xB m c b₀ sup u) (sB m c b₀ sup) u) X := by rw [hb₀, hsup, hu]; exact hM
  have v0 : b₀.val = t.val / 24 := (congrArg Fin.val hb₀).trans p0
  have v1 : sup.val = t.val / 8 % 3 := (congrArg Fin.val hsup).trans p1
  have v2 : u.val = t.val % 8 := (congrArg Fin.val hu).trans p2
  have e : b = b₀ := Fin.ext (hb.trans v0.symm)
  subst e
  exact (hM' k ρ).trans (congrArg (BitVec.ofNat 8) (scale_eq m c b sup u ρ k d (by omega)))

/-- The codes' and the scales' arrays. -/
def codesOf (c : Dev nD) : S3x12288x6144.Idx → EReal := fun i => codeAt (xA m c) (sA m c) ⟨(i 0).val, (i 0).isLt⟩ ⟨(i 1).val, (i 1).isLt⟩ ⟨(i 2).val, (i 2).isLt⟩
def scalesOf (c : Dev nD) : S3x12288x192.Idx → BitVec 8 := fun i => scaleAt (xA m c) (sA m c) ⟨(i 0).val, (i 0).isLt⟩ ⟨(i 1).val, (i 1).isLt⟩ ⟨(i 2).val, (i 2).isLt⟩

theorem ix3_eta {a b c : ℕ} (i : (⟨3, ![a, b, c]⟩ : Shape).Idx) : i = ix3 (⟨(i 0).val, (i 0).isLt⟩ : Fin a) (⟨(i 1).val, (i 1).isLt⟩ : Fin b) (⟨(i 2).val, (i 2).isLt⟩ : Fin c) := by
  funext d
  apply Fin.ext
  fin_cases d <;> rfl

theorem codes_eq {r : PUnit × MemSt nD τ sig (Elt Ideal)} (h : RDat.FramePost (cfgs 0) (vdat m) (V m) r) (c : Dev nD) :
    r.2.mem ((c.tc : Thread nD τ).loc main_v0_0) = codesOf m c := by
  obtain ⟨after, hL, hA⟩ := RDat.FramePost.exists_exact h c
  refine (hA 2).trans ?_
  refine Pipeline.Dat.arrAt_eq_of_covers (cfg := cfg0) ((vdat m c).withAfter after) 2 (codesOf m c) (by decide +kernel) fun t hf y => ?_
  have hX := made_2 m c t (after 2 t) (hL 2 t hf)
  obtain ⟨i0, i1, i2⟩ := index_2 t
  have ht : t.val < 72 := t.isLt
  have y0 : (y 0).val < 1 := (y 0).isLt
  have y1 : (y 1).val < 512 := (y 1).isLt
  have y2 : (y 2).val < 6144 := (y 2).isLt
  have e : ((cfg0.win 2).blk t).view.emb y = ix3 (⟨t.val / 24, by omega⟩ : Fin 3) (⟨512 * (t.val % 24) + (y 1).val, by omega⟩ : Fin 12288) (⟨(y 2).val, y2⟩ : Fin 6144) := by
    funext a
    apply Fin.ext
    fin_cases a
    · show cc0_transform_2 (grid0.coords t) 0 * 1 + 1 * (y 0).val = t.val / 24
      rw [i0]; omega
    · show cc0_transform_2 (grid0.coords t) 1 * 512 + 1 * (y 1).val = 512 * (t.val % 24) + (y 1).val
      rw [i1]; ring
    · show cc0_transform_2 (grid0.coords t) 2 * 6144 + 1 * (y 2).val = (y 2).val
      rw [i2]; omega
  refine Eq.trans ?_ (congrArg (codesOf m c) e).symm
  refine Eq.trans ?_ (hX ⟨t.val / 24, by omega⟩ ⟨512 * (t.val % 24) + (y 1).val, by omega⟩ ⟨(y 1).val, y1⟩ ⟨(y 2).val, y2⟩ rfl rfl)
  show after 2 t _ = after 2 t _
  refine congrArg (after 2 t) ?_
  funext a
  apply Fin.ext
  fin_cases a
  · show (y 0).val = 0
    omega
  · rfl
  · rfl

theorem scales_eq {r : PUnit × MemSt nD τ sig (Elt Ideal)} (h : RDat.FramePost (cfgs 0) (vdat m) (V m) r) (c : Dev nD) :
    r.2.mem ((c.tc : Thread nD τ).loc main_v0_1) = scalesOf m c := by
  obtain ⟨after, hL, hA⟩ := RDat.FramePost.exists_exact h c
  refine (hA 3).trans ?_
  refine Pipeline.Dat.arrAt_eq_of_covers (cfg := cfg0) ((vdat m c).withAfter after) 3 (scalesOf m c) (by decide +kernel) fun t hf y => ?_
  have hX := made_3 m c t (after 3 t) (hL 3 t hf)
  obtain ⟨i0, i1, i2⟩ := index_3 t
  have ht : t.val < 72 := t.isLt
  have y0 : (y 0).val < 1 := (y 0).isLt
  have y1 : (y 1).val < 512 := (y 1).isLt
  have y2 : (y 2).val < 192 := (y 2).isLt
  have e : ((cfg0.win 3).blk t).view.emb y = ix3 (⟨t.val / 24, by omega⟩ : Fin 3) (⟨512 * (t.val % 24) + (y 1).val, by omega⟩ : Fin 12288) (⟨(y 2).val, y2⟩ : Fin 192) := by
    funext a
    apply Fin.ext
    fin_cases a
    · show cc0_transform_3 (grid0.coords t) 0 * 1 + 1 * (y 0).val = t.val / 24
      rw [i0]; omega
    · show cc0_transform_3 (grid0.coords t) 1 * 512 + 1 * (y 1).val = 512 * (t.val % 24) + (y 1).val
      rw [i1]; ring
    · show cc0_transform_3 (grid0.coords t) 2 * 192 + 1 * (y 2).val = (y 2).val
      rw [i2]; omega
  refine Eq.trans ?_ (congrArg (scalesOf m c) e).symm
  refine Eq.trans ?_ (hX ⟨t.val / 24, by omega⟩ ⟨512 * (t.val % 24) + (y 1).val, by omega⟩ ⟨(y 1).val, y1⟩ ⟨(y 2).val, y2⟩ rfl rfl)
  show after 3 t _ = after 3 t _
  refine congrArg (after 3 t) ?_
  funext a
  apply Fin.ext
  fin_cases a
  · show (y 0).val = 0
    omega
  · rfl
  · rfl

end Cert.KernelIdeal.Hand

end
-- ==== Proof.Hand.RefDbias.lean ====
/-
  `ReferenceIdeal`'s values at an index: the multiplied codes and their sums over the tokens.
-/
module

public import proofs.«01_k».proof.Proof.Hand.IdealLaunch
public import proofs.«01_k».proof.Proof.Gen.ReferenceIdeal.Skeleton

@[expose] public section

noncomputable section

namespace Cert.ReferenceIdeal.Hand

open Cert.ReferenceIdeal Cert.ReferenceIdeal.Gen Cert.Hand
open Idealize.ShloMosaic Idealize.ShloMosaic.TcCoe Idealize.ShloMosaic.Tactic
open Cert.KernelIdeal.Hand (share)

/-- The factor of a scale's byte as the reference computes it. -/
theorem exp2_scale (s : BitVec 8) : FloatOps.exp2 (F := Ideal) (φ := .f32) (FloatOps.sitofp (F := Ideal) FTy.f32 (IntOp.subi (BitVec.setWidth 32 s) 127#32)) = pw s := by
  have h : ∀ s : BitVec 8, (IntOp.subi (BitVec.setWidth 32 s) 127#32).toInt = (s.toNat : ℤ) - 127 := by decide +kernel
  show Ideal.exp2 (((IntOp.subi (BitVec.setWidth 32 s) 127#32).toInt : ℝ) : EReal) = _
  rw [h, Ideal.exp2_coe]
  unfold pw two
  exact congrArg _ (Real.rpow_intCast 2 _)

theorem pay4_at (v0 : Vec Ideal S3x6144x384 .i8) (v6 : Vec Ideal S3x6144x12288 .fp8e4m3) (b : Fin 3) (τ : Fin 6144) (d : Fin 12288) :
    k0_pay4 (F := Ideal) v0 v6 (ix3 b τ d) = pw (v0 (ix3 b τ (⟨d.val / 32, by omega⟩ : Fin 384))) * v6 (ix3 b τ d) := by
  pointwise [k0_pay4]
  rw [exp2_scale]
  exact mul_comm (G := EReal) _ _

theorem fiber (h : S3x6144x12288.Reduces [0, 1] S12288) (d : Fin 12288) (i : S3x6144x12288.Idx) :
    h.drop i = ix1 d ↔ ∃ k : Fin 3 × Fin 6144, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with
    | ⟨0, _⟩ => rfl

theorem pay5_at (v0 : Vec Ideal S3x6144x384 .i8) (v6 : Vec Ideal S3x6144x12288 .fp8e4m3) (d : Fin 12288) :
    k0_pay5 (F := Ideal) v0 v6 (ix2 0 d) = ∑ b : Fin 3, share v6 v0 b d := by
  pointwise [k0_pay5]
  refine (Finset.sum_filter_eq_sum_of_fiber _ (fun k : Fin 3 × Fin 6144 => (ix3 k.1 k.2 d : S3x6144x12288.Idx)) ?_ (fiber _ d) _).trans ?_
  · intro x y e
    exact Prod.ext (congrFun e 0) (congrFun e 1)
  · rw [Fintype.sum_prod_type]
    refine Finset.sum_congr rfl fun b _ => ?_
    unfold share
    exact Finset.sum_congr rfl fun τ _ => pay4_at v0 v6 b τ d

end Cert.ReferenceIdeal.Hand

end
-- ==== Proof.Hand.RefQuant.lean ====
/-
  `ReferenceIdeal`'s values at an index: the scales of the blocks of 32 tokens and the quantised codes.
-/
module

public import proofs.«01_k».proof.Proof.Hand.IdealOut
public import proofs.«01_k».proof.Proof.Hand.RefDbias
public import proofs.«01_k».proof.Proof.Gen.ReferenceIdeal.Value
public import Idealize.ShloMosaic.Lib.WordSum

@[expose] public section

noncomputable section

namespace Cert.ReferenceIdeal.Hand

open Cert.ReferenceIdeal Cert.ReferenceIdeal.Gen Cert.Hand
open Idealize.ShloMosaic Idealize.ShloMosaic.TcCoe Idealize.ShloMosaic.Tactic
open Cert.KernelIdeal.Hand (gv gs num num_le sb sb_pos sb_le clip amax codeAt scaleAt)

/-- The powers of two as the reference computes them. -/
theorem exp2_int (a : BitVec 32) : FloatOps.exp2 (F := Ideal) (φ := .f32) (FloatOps.sitofp (F := Ideal) FTy.f32 a) = two a.toInt := by
  show Ideal.exp2 ((a.toInt : ℝ) : EReal) = _
  rw [Ideal.exp2_coe]
  unfold two
  exact congrArg _ (Real.rpow_intCast 2 _)

theorem top_eq : Ideal.ofBits FTy.f32 1138753536#32 = Ideal.ofBits FTy.bf16 17376#16 := by
  show Ideal.ieee 8 23 1138753536#32 = Ideal.ieee 8 7 17376#16
  rw [ieee_normal 8 23 1138753536#32 135 6291456 (by decide) (by decide) (by decide) (by decide) (by decide),
    ieee_normal 8 7 17376#16 135 96 (by decide) (by decide) (by decide) (by decide) (by decide)]
  refine congrArg Real.toEReal ?_
  norm_num

theorem ieee_neg {w : Nat} (e m : Nat) (b : BitVec w) (ex fr : Nat) (hs : b.extractLsb' (e + m) 1 = 1#1)
    (hx : (b.extractLsb' m e).toNat = ex) (hf : (b.extractLsb' 0 m).toNat = fr) (h0 : ex ≠ 0) (h1 : ex ≠ 2 ^ e - 1) :
    Ideal.ieee e m b = ((-((2 ^ m + fr : ℕ) : ℝ) * (2 : ℝ) ^ ((ex : ℤ) - (2 ^ (e - 1) - 1) - m) : ℝ) : EReal) := by
  unfold Ideal.ieee
  simp only [hs, hx, hf, h0, h1, if_false]
  norm_num

theorem bot_eq : Ideal.ofBits FTy.f32 3286237184#32 = Ideal.ofBits FTy.bf16 50144#16 := by
  show Ideal.ieee 8 23 3286237184#32 = Ideal.ieee 8 7 50144#16
  rw [ieee_neg 8 23 3286237184#32 135 6291456 (by decide) (by decide) (by decide) (by decide) (by decide),
    ieee_neg 8 7 50144#16 135 96 (by decide) (by decide) (by decide) (by decide) (by decide)]
  refine congrArg Real.toEReal ?_
  norm_num

theorem least : Ideal.ofBits FTy.f32 0xFF800000#32 = ⊥ := by
  show Ideal.ieee 8 23 0xFF800000#32 = ⊥
  unfold Ideal.ieee
  have h1 : ((0xFF800000#32).extractLsb' 23 8).toNat = 255 := by decide
  have h2 : ((0xFF800000#32).extractLsb' 0 23).toNat = 0 := by decide
  have h3 : (0xFF800000#32).extractLsb' (8 + 23) 1 = 1#1 := by decide
  simp only [h1, h2, h3]
  norm_num

theorem pay6_at (v0 : Vec Ideal S3x6144x384 .i8) (v6 : Vec Ideal S3x6144x12288 .fp8e4m3) (b : Fin 3) (d : Fin 12288) (ρ : Fin 192) (j : Fin 32) :
    k0_pay6 (F := Ideal) v0 v6 (ix4 b d ρ j) = gv v6 v0 b (⟨32 * ρ.val + j.val, by omega⟩ : Fin 6144) d := by
  pointwise [k0_pay6]
  have e : (⟨ρ.val * 32 + j.val, by omega⟩ : Fin 6144) = ⟨32 * ρ.val + j.val, by omega⟩ := Fin.ext (by show ρ.val * 32 + j.val = 32 * ρ.val + j.val; ring)
  refine (congrArg (fun τ => k0_pay4 (F := Ideal) v0 v6 (ix3 b τ d)) e).trans ((pay4_at v0 v6 b _ d).trans ?_)
  exact mul_comm (G := EReal) _ _

/-- The largest of 32, what is compared with the powers of two, and the comparisons as words. -/
def largest (y : FVec Ideal S3x12288x192x32 .f32) : FVec Ideal S3x12288x192 .f32 :=
  multiReduction .maximumf [3] S3x12288x192 y 0xFF800000#32 reduces_S3x12288x192x32_S3x12288x192 (.inl rfl) rfl
def bound (y : FVec Ideal S3x12288x192x32 .f32) : FVec Ideal S3x12288x192 .f32 :=
  mulf (largest (absf y)) (broadcast S3x12288x192 (Scalar.ofBits .f32 0x3B124925#32))
def tests (y : FVec Ideal S3x12288x192 .f32) : IVec S3x12288x192x252 32 :=
  select (cmpf .ole (exp2 (sitofp .f32 (subi (iota .tc S3x12288x192x252 32 [3] iota_S3x12288x192x252_d3_w32) (broadcast S3x12288x192x252 126#32))))
    (broadcastTo S3x12288x192x252 (shapeCast S3x12288x192x1 y shapeCasts_S3x12288x192_S3x12288x192x1) broadcasts_S3x12288x192x1_S3x12288x192x252))
    (broadcast S3x12288x192x252 1#32) (broadcast S3x12288x192x252 0#32)

theorem pay7_eq (v0 : Vec Ideal S3x6144x384 .i8) (v6 : Vec Ideal S3x6144x12288 .fp8e4m3) :
    k0_pay7 (F := Ideal) v0 v6 = multiReductionI .add [3] S3x12288x192 (tests (bound (k0_pay6 v0 v6))) 0#32 reduces_S3x12288x192x252_S3x12288x192 rfl := rfl

theorem tests_at (y : FVec Ideal S3x12288x192 .f32) (b : Fin 3) (d : Fin 12288) (ρ : Fin 192) (k : Fin 252) :
    (tests y (ix4 b d ρ k)).toNat = if two ((k.val : ℤ) - 126) ≤ y (ix3 b d ρ) then 1 else 0 := by
  have h : ∀ k : Fin 252, (IntOp.subi (BitVec.ofNat 32 k.val) 126#32).toInt = (k.val : ℤ) - 126 := by decide +kernel
  pointwise [tests]
  rw [exp2_int, h]
  split <;> rfl

theorem fiber4 {n : ℕ} (h : (⟨4, ![3, 12288, 192, n]⟩ : Shape).Reduces [3] S3x12288x192) (b : Fin 3) (d : Fin 12288) (ρ : Fin 192) (i : (⟨4, ![3, 12288, 192, n]⟩ : Shape).Idx) :
    h.drop i = ix3 b d ρ ↔ ∃ k : Fin n, ix4 b d ρ k = i := by
  constructor
  · intro e
    refine ⟨i 3, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => rfl
  · rintro ⟨k, rfl⟩
    funext b
    apply Fin.ext
    match b with
    | ⟨0, _⟩ => rfl
    | ⟨1, _⟩ => rfl
    | ⟨2, _⟩ => rfl

theorem ix4_inj {n : ℕ} (b : Fin 3) (d : Fin 12288) (ρ : Fin 192) : Function.Injective (fun k : Fin n => (ix4 b d ρ k : (⟨4, ![3, 12288, 192, n]⟩ : Shape).Idx)) :=
  fun x y e => congrFun e 3

theorem pay7_at (v0 : Vec Ideal S3x6144x384 .i8) (v6 : Vec Ideal S3x6144x12288 .fp8e4m3) (b : Fin 3) (d : Fin 12288) (ρ : Fin 192) :
    k0_pay7 (F := Ideal) v0 v6 (ix3 b d ρ) = BitVec.ofNat 32 (num (bound (k0_pay6 v0 v6) (ix3 b d ρ))) := by
  generalize hy : bound (k0_pay6 v0 v6) = y
  have e : ∑ i ∈ Finset.univ.filter (fun i => reduces_S3x12288x192x252_S3x12288x192.drop i = ix3 b d ρ), (tests y i).toNat = num (y (ix3 b d ρ)) := by
    refine (Finset.sum_filter_eq_sum_of_fiber _ (fun k : Fin 252 => (ix4 b d ρ k : S3x12288x192x252.Idx)) (ix4_inj b d ρ) (fiber4 _ b d ρ) _).trans ?_
    unfold num
    rw [Finset.card_filter]
    exact Finset.sum_congr rfl fun k _ => tests_at y b d ρ k
  have hn := num_le (y (ix3 b d ρ))
  have e' := WordSum.toNat_multiReductionI_add (tests y) reduces_S3x12288x192x252_S3x12288x192 rfl (ix3 b d ρ) (by rw [e]; omega)
  rw [e] at e'
  apply BitVec.eq_of_toNat_eq
  refine (congrArg BitVec.toNat ((congrFun (pay7_eq v0 v6) _).trans (by rw [hy]))).trans (e'.trans ?_)
  rw [BitVec.toNat_ofNat]
  omega

theorem fold_max {ι : Type} (S : Finset ι) (a c : EReal) (x : ι → EReal) :
    S.fold (FloatOps.maximumf (F := Ideal) (φ := .f32)) a x ≤ c ↔ a ≤ c ∧ ∀ i ∈ S, x i ≤ c :=
  Finset.fold_max_le (α := ι) (β := EReal) c

theorem max_fiber {ι : Type} (S : Finset ι) (x : ι → EReal) (g : Fin 32 → ι) (hS : ∀ i, i ∈ S ↔ ∃ k, g k = i) :
    S.fold (FloatOps.maximumf (F := Ideal) (φ := .f32)) (Ideal.ofBits FTy.f32 0xFF800000#32) x = Finset.univ.sup fun j => x (g j) := by
  refine eq_of_forall_ge_iff fun c => ?_
  rw [fold_max, Finset.sup_le_iff]
  constructor
  · rintro ⟨-, h⟩ j _
    exact h _ ((hS _).mpr ⟨j, rfl⟩)
  · intro h
    refine ⟨(le_of_eq least).trans bot_le, fun i hi => ?_⟩
    obtain ⟨j, rfl⟩ := (hS i).mp hi
    exact h j (Finset.mem_univ _)

theorem mem_fiber {n : ℕ} (h : (⟨4, ![3, 12288, 192, n]⟩ : Shape).Reduces [3] S3x12288x192) (b : Fin 3) (d : Fin 12288) (ρ : Fin 192) (i : (⟨4, ![3, 12288, 192, n]⟩ : Shape).Idx) :
    i ∈ Finset.univ.filter (fun i => h.drop i = ix3 b d ρ) ↔ ∃ k : Fin n, ix4 b d ρ k = i := by
  rw [Finset.mem_filter, fiber4]
  exact and_iff_right (Finset.mem_univ _)

theorem largest_at (y : FVec Ideal S3x12288x192x32 .f32) (b : Fin 3) (d : Fin 12288) (ρ : Fin 192) :
    largest y (ix3 b d ρ) = Finset.univ.sup fun j : Fin 32 => (y (ix4 b d ρ j) : EReal) := by
  unfold largest
  refine (multiReduction_maximumf_eq_fold y _ _ _ _ (ix3 b d ρ)).trans ?_
  exact max_fiber _ y (fun j => ix4 b d ρ j) (mem_fiber _ b d ρ)

theorem bound_of (y : FVec Ideal S3x12288x192x32 .f32) (b : Fin 3) (d : Fin 12288) (ρ : Fin 192) (w : FVec Ideal S3x12288x192 .f32) (hw : largest (absf y) = w) :
    bound y (ix3 b d ρ) = w (ix3 b d ρ) * Ideal.ofBits FTy.f32 991054117#32 := by
  unfold bound
  rw [hw]
  rfl

theorem absf_sup (y : FVec Ideal S3x12288x192x32 .f32) (b : Fin 3) (d : Fin 12288) (ρ : Fin 192) :
    (Finset.univ.sup fun j : Fin 32 => (absf y (ix4 b d ρ j) : EReal)) = amax (fun j => y (ix4 b d ρ j)) := by
  unfold amax
  rfl

theorem bound_at (y : FVec Ideal S3x12288x192x32 .f32) (b : Fin 3) (d : Fin 12288) (ρ : Fin 192) (f : Fin 32 → EReal) (hf : (fun j => y (ix4 b d ρ j)) = f) :
    bound y (ix3 b d ρ) = amax f * Ideal.ofBits FTy.f32 991054117#32 := by
  have e : (largest (absf y) (ix3 b d ρ) : EReal) = amax f := by
    rw [largest_at, absf_sup, hf]
  rw [← e]
  exact bound_of y b d ρ _ rfl

/-- A block's scale, of the number of powers of two. -/
theorem scale_word : ∀ n : Fin 253, BitVec.setWidth 8 (IntOp.addi (Scalar.select (IntOp.cmpi .eq (BitVec.ofNat 32 n.val) 0#32) 0#32 (IntOp.subi (BitVec.ofNat 32 n.val) 126#32)) 127#32)
    = BitVec.ofNat 8 (if n.val = 0 then 127 else n.val + 1) := by decide +kernel
theorem scale_exp : ∀ n : Fin 253, (IntOp.subi 0#32 (Scalar.select (IntOp.cmpi .eq (BitVec.ofNat 32 n.val) 0#32) 0#32 (IntOp.subi (BitVec.ofNat 32 n.val) 126#32))).toInt
    = 127 - ((if n.val = 0 then 127 else n.val + 1 : ℕ) : ℤ) := by decide +kernel

theorem pay3_at (v36 : IVec S3x12288x192 1) (v38 : IVec S3x12288x192 32) (v39 : IVec S3x12288x192 32) (b : Fin 3) (d : Fin 12288) (ρ : Fin 192) :
    k0_pay3 v36 v38 v39 (ix3 b d ρ) = BitVec.setWidth 8 (IntOp.addi (Scalar.select (v36 (ix3 b d ρ)) (v39 (ix3 b d ρ)) (v38 (ix3 b d ρ))) 127#32) := by
  pointwise [k0_pay3, k0_pay1]

theorem pay2_at (v18 : FVec Ideal S3x12288x192x32 .f32) (v36 : IVec S3x12288x192 1) (v38 : IVec S3x12288x192 32) (v39 : IVec S3x12288x192 32) (b : Fin 3) (d : Fin 12288) (τ : Fin 6144) (ρ : Fin 192) (j : Fin 32)
    (hτ : τ.val = 32 * ρ.val + j.val) :
    k0_pay2 (F := Ideal) v18 v36 v38 v39 (ix3 b d τ)
      = clip (v18 (ix4 b d ρ j)) (two (IntOp.subi 0#32 (Scalar.select (v36 (ix3 b d ρ)) (v39 (ix3 b d ρ)) (v38 (ix3 b d ρ)))).toInt) := by
  have hρ : ρ = ⟨τ.val / 32, by clear hτ; omega⟩ := Fin.ext (by show ρ.val = τ.val / 32; omega)
  have hj : j = ⟨τ.val % 32, by clear hτ; omega⟩ := Fin.ext (by show j.val = τ.val % 32; omega)
  clear hτ
  subst hρ hj
  pointwise [k0_pay2, k0_pay1]
  rw [exp2_int, top_eq, bot_eq]
  rfl

theorem pay8_at (v0 : Vec Ideal S3x6144x384 .i8) (v6 : Vec Ideal S3x6144x12288 .fp8e4m3) (b : Fin 3) (d : Fin 12288) (ρ : Fin 192) :
    k0_pay8 (F := Ideal) v0 v6 (ix3 b d ρ) = IntOp.cmpi .eq (k0_pay7 (F := Ideal) v0 v6 (ix3 b d ρ)) 0#32 := by
  pointwise [k0_pay8]
theorem pay9_at (v0 : Vec Ideal S3x6144x384 .i8) (v6 : Vec Ideal S3x6144x12288 .fp8e4m3) (b : Fin 3) (d : Fin 12288) (ρ : Fin 192) :
    k0_pay9 (F := Ideal) v0 v6 (ix3 b d ρ) = IntOp.subi (k0_pay7 (F := Ideal) v0 v6 (ix3 b d ρ)) 126#32 := by
  pointwise [k0_pay9]
theorem pay10_at (b : Fin 3) (d : Fin 12288) (ρ : Fin 192) : k0_pay10 (ix3 b d ρ) = 0#32 := by
  pointwise [k0_pay10]

theorem count_of (y : EReal) (w : BitVec 32) (h : w = BitVec.ofNat 32 (num y)) : ∃ n : Fin 253, w = BitVec.ofNat 32 n.val ∧ (if n.val = 0 then 127 else n.val + 1) = sb y :=
  ⟨⟨num y, Nat.lt_succ_of_le (num_le y)⟩, h, rfl⟩

theorem num_at (v0 : Vec Ideal S3x6144x384 .i8) (v6 : Vec Ideal S3x6144x12288 .fp8e4m3) (b : Fin 3) (d : Fin 12288) (ρ : Fin 192) :
    ∃ n : Fin 253, k0_pay7 (F := Ideal) v0 v6 (ix3 b d ρ) = BitVec.ofNat 32 n.val ∧ (if n.val = 0 then 127 else n.val + 1) = gs v6 v0 b d ρ := by
  have hb := bound_at (k0_pay6 v0 v6) b d ρ (fun j => gv v6 v0 b (⟨32 * ρ.val + j.val, by omega⟩ : Fin 6144) d) (funext fun j => pay6_at v0 v6 b d ρ j)
  have h7 := pay7_at v0 v6 b d ρ
  rw [hb] at h7
  exact count_of _ _ h7

theorem scale_at (v0 : Vec Ideal S3x6144x384 .i8) (v6 : Vec Ideal S3x6144x12288 .fp8e4m3) (b : Fin 3) (d : Fin 12288) (ρ : Fin 192) :
    k0_pay3 (k0_pay8 (F := Ideal) v0 v6) (k0_pay9 (F := Ideal) v0 v6) k0_pay10 (ix3 b d ρ) = scaleAt v6 v0 b d ρ := by
  obtain ⟨n, h7, hg⟩ := num_at v0 v6 b d ρ
  rw [pay3_at, pay8_at, pay9_at, pay10_at, h7, scale_word, hg]
  rfl

theorem code_at (v0 : Vec Ideal S3x6144x384 .i8) (v6 : Vec Ideal S3x6144x12288 .fp8e4m3) (b : Fin 3) (d : Fin 12288) (τ : Fin 6144) :
    k0_pay2 (F := Ideal) (k0_pay6 v0 v6) (k0_pay8 v0 v6) (k0_pay9 v0 v6) k0_pay10 (ix3 b d τ) = codeAt v6 v0 b d τ := by
  obtain ⟨n, h7, hg⟩ := num_at v0 v6 b d (⟨τ.val / 32, by omega⟩ : Fin 192)
  have ht : 32 * (τ.val / 32) + τ.val % 32 = τ.val := by omega
  rw [pay2_at _ _ _ _ b d τ (⟨τ.val / 32, by omega⟩ : Fin 192) (⟨τ.val % 32, by omega⟩ : Fin 32) ht.symm, pay8_at, pay9_at, pay10_at, h7, scale_exp, hg, pay6_at]
  unfold codeAt
  refine congrArg (fun z => clip (gv v6 v0 b z d) _) (Fin.ext ht)

theorem pay11_eq (x : Vec Ideal S3x6144x12288 .fp8e4m3) (s : Vec Ideal S3x6144x384 .i8) : k0_pay11 (F := Ideal) x s = k0_pay8 (F := Ideal) s x := by
  unfold k0_pay11
  rw [View.ld_unit_zero (S := S3x6144x384) Value.hz1 _ s, View.ld_unit_zero (S := S3x6144x12288) Value.hz0 _ x]
theorem pay12_eq (x : Vec Ideal S3x6144x12288 .fp8e4m3) (s : Vec Ideal S3x6144x384 .i8) : k0_pay12 (F := Ideal) x s = k0_pay9 (F := Ideal) s x := by
  unfold k0_pay12
  rw [View.ld_unit_zero (S := S3x6144x384) Value.hz1 _ s, View.ld_unit_zero (S := S3x6144x12288) Value.hz0 _ x]

theorem G2_at (x : Vec Ideal S3x6144x12288 .fp8e4m3) (s : Vec Ideal S3x6144x384 .i8) (b : Fin 3) (d : Fin 12288) (τ : Fin 6144) :
    Value.G2 (F := Ideal) x s (ix3 b d τ) = codeAt x s b d τ := by
  unfold Value.G2 k0_pay13
  rw [pay11_eq, pay12_eq]
  exact code_at s x b d τ
theorem G3_at (x : Vec Ideal S3x6144x12288 .fp8e4m3) (s : Vec Ideal S3x6144x384 .i8) (b : Fin 3) (d : Fin 12288) (ρ : Fin 192) :
    Value.G3 (F := Ideal) x s (ix3 b d ρ) = scaleAt x s b d ρ := by
  unfold Value.G3 k0_pay13
  rw [pay11_eq, pay12_eq]
  exact scale_at s x b d ρ

end Cert.ReferenceIdeal.Hand

end
-- ==== Proof.Hand.Equal.lean ====
/-
  The codes, the scales and the sums over the tokens of `KernelIdeal` and of `ReferenceIdeal` are equal.
-/
module

public import proofs.«01_k».proof.Defs
public import proofs.«01_k».proof.Proof.Hand.RefQuant
public import proofs.«01_k».proof.Proof.Gen.ReferenceIdeal.Value

@[expose] public section

noncomputable section

namespace Cert.Hand

open Idealize.ShloMosaic Idealize.ShloMosaic.TcCoe Idealize.SL.Sem
open Idealize.ShloMosaic.Pipeline (RDat)

theorem pre_facts : Cert.Pre_scales_in_range.Facts := by
  constructor
  all_goals decide +kernel

instance : Std.Commutative (IntOp.andi (w := 1)) := ⟨BitVec.and_comm⟩
instance : Std.Associative (IntOp.andi (w := 1)) := ⟨BitVec.and_assoc⟩

theorem fold_and {ι : Type} (S : Finset ι) (b : BitVec 1) (x : ι → BitVec 1) (h : S.fold IntOp.andi b x = 1#1) : ∀ i ∈ S, x i = 1#1 := by
  classical
  induction S using Finset.induction_on with
  | empty => intro i hi; simp at hi
  | insert a S ha ih =>
    rw [Finset.fold_insert ha] at h
    have hh : ∀ p q : BitVec 1, IntOp.andi p q = 1#1 → p = 1#1 ∧ q = 1#1 := by decide
    obtain ⟨h1, h2⟩ := hh _ _ h
    intro i hi
    rcases Finset.mem_insert.mp hi with rfl | hi
    · exact h1
    · exact ih h2 i hi

theorem scale_range : ∀ s : BitVec 8, IntOp.andi (IntOp.cmpi .sge (BitVec.setWidth 32 s) 1#32) (IntOp.cmpi .sle (BitVec.setWidth 32 s) 254#32) = 1#1 →
    1 ≤ s.toNat ∧ s.toNat ≤ 254 := by decide +kernel

theorem in_range (x : FVec Ideal ⟨3, ![3, 6144, 12288]⟩ .fp8e4m3) (s : IVec ⟨3, ![3, 6144, 384]⟩ 8)
    (h : @Cert.Pre_scales_in_range.fn pre_facts Ideal _ x s = fun _ => 1#1) (y) : 1 ≤ (s y).toNat ∧ (s y).toNat ≤ 254 := by
  have h0 := congrFun h (fun a => Fin.elim0 a)
  unfold Cert.Pre_scales_in_range.fn at h0
  dsimp only at h0
  rw [Host.reduce_eq_fold] at h0
  have h1 := fold_and _ _ _ h0 y (by
    rw [Finset.mem_filter]
    exact ⟨Finset.mem_univ _, funext fun a => Fin.elim0 a⟩)
  exact scale_range (s y) h1

theorem equal : algebraic_KernelIdeal_ReferenceIdeal_pre_scales_in_range (hKernelIdeal := Cert.KernelIdeal.Gen.facts) (hReferenceIdeal := Cert.ReferenceIdeal.Gen.facts)
    (hPre_scales_in_range := pre_facts) := by
  intro m g m' g' hpre hm
  have hs : ∀ c y, 1 ≤ (Cert.KernelIdeal.Hand.sA m c y).toNat ∧ (Cert.KernelIdeal.Hand.sA m c y).toNat ≤ 254 := fun c y => in_range _ _ (hpre c) y
  refine ⟨fun c => Cert.KernelIdeal.Hand.codesOf m c, fun c => Cert.KernelIdeal.Hand.scalesOf m c, fun c => Cert.KernelIdeal.Hand.sums m c, ?_, ?_⟩
  · exact θ_run_mono (Cert.KernelIdeal.Hand.run_value m g hs) fun r h c => ⟨Cert.KernelIdeal.Hand.codes_eq m h.1 c, Cert.KernelIdeal.Hand.scales_eq m h.1 c,
      Cert.KernelIdeal.Hand.dbias_eq m h.1 c, h.1.arr_in c (0 : Fin 5) rfl, h.1.arr_in c (1 : Fin 5) rfl⟩
  · refine θ_run_mono (Cert.ReferenceIdeal.Value.run m' g') fun r h c => ⟨?_, ?_, ?_, (h c).2.2.2.1, (h c).2.2.2.2⟩
    · refine (h c).1.trans (funext fun i => ?_)
      rw [(hm c).1, (hm c).2]
      exact (congrArg _ (Cert.KernelIdeal.Hand.ix3_eta i)).trans (Cert.ReferenceIdeal.Hand.G2_at _ _ _ _ _)
    · refine (h c).2.1.trans (funext fun i => ?_)
      rw [(hm c).1, (hm c).2]
      exact (congrArg _ (Cert.KernelIdeal.Hand.ix3_eta i)).trans (Cert.ReferenceIdeal.Hand.G3_at _ _ _ _ _)
    · refine (h c).2.2.1.trans (funext fun i => ?_)
      have e : i = ix2 (0 : Fin 1) (⟨(i 1).val, (i 1).isLt⟩ : Fin 12288) := by
        funext a
        apply Fin.ext
        fin_cases a
        · show (i 0).val = 0
          have : (i 0).val < 1 := (i 0).isLt
          omega
        · rfl
      refine (congrArg _ e).trans ((Cert.ReferenceIdeal.Hand.pay5_at _ _ _).trans ?_)
      rw [(hm c).1, (hm c).2]
      rfl

end Cert.Hand

end
-- ==== Proof.lean ====
/-
  The certificate's claims, from the modules under Proof/.
-/
module

public import proofs.«01_k».proof.Defs
public import proofs.«01_k».proof.Proof.Hand.KernelBody
public import proofs.«01_k».proof.Proof.Hand.IdealBody
public import proofs.«01_k».proof.Proof.Hand.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Lib.Bf16PairInverse

@[expose] public section

noncomputable section

namespace Cert.Proof

open Idealize.ShloMosaic Idealize.SL.Sem
open Idealize.ShloMosaic.IdealRules.bf16_pair

theorem claim : Cert.Claim :=
  ⟨Cert.Kernel.Gen.facts, Cert.KernelIdeal.Gen.facts, Cert.ReferenceIdeal.Gen.facts, Cert.Hand.pre_facts,
    fun m ρ _ => Cert.Kernel.Hand.run_quiescent m ρ, fun m ρ _ => Cert.KernelIdeal.Hand.run_quiescent m ρ,
    fun m ρ _ => Cert.KernelIdeal.Hand.run_quiescent m ρ,
    fun m ρ _ => Cert.ReferenceIdeal.Gen.frame m ρ, fun m ρ _ => Cert.ReferenceIdeal.Gen.frame m ρ,
    ⟨bufferStatement _ _, statement _ _, statement _ _⟩, Cert.Hand.equal⟩

end Cert.Proof

end
